-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_differ [hPre_positions_differ : Cert.Pre_positions_differ.Facts] (m : (ℓ : Loc Cert.KernelIdeal.nD Cert.KernelIdeal.τ Cert.KernelIdeal.sig) → Buf (Elt Ideal) ℓ) : Prop :=
  ∀ c : Dev Cert.KernelIdeal.nD,
    (Cert.Pre_positions_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_differ [hPre_positions_differ : Cert.Pre_positions_differ.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_positions_differ [hKernelIdeal : Cert.KernelIdeal.Facts] [hPre_positions_differ : Cert.Pre_positions_differ.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_differ m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positions_differ [hReferenceIdeal : Cert.ReferenceIdeal.Facts] [hPre_positions_differ : Cert.Pre_positions_differ.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_differ m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_positions_differ [hKernelIdeal : Cert.KernelIdeal.Facts] [hReferenceIdeal : Cert.ReferenceIdeal.Facts] [hPre_positions_differ : Cert.Pre_positions_differ.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_differ m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_positions_differ : Cert.Pre_positions_differ.Facts),
    quiescent_Kernel (hKernel := hKernel)
    ∧ quiescent_KernelIdeal (hKernelIdeal := hKernelIdeal)
    ∧ quiescent_KernelIdeal_pre_positions_differ (hKernelIdeal := hKernelIdeal) (hPre_positions_differ := hPre_positions_differ)
    ∧ quiescent_ReferenceIdeal (hReferenceIdeal := hReferenceIdeal)
    ∧ quiescent_ReferenceIdeal_pre_positions_differ (hReferenceIdeal := hReferenceIdeal) (hPre_positions_differ := hPre_positions_differ)
    ∧ preserves_Kernel_KernelIdeal
    ∧ algebraic_KernelIdeal_ReferenceIdeal_pre_positions_differ (hKernelIdeal := hKernelIdeal) (hReferenceIdeal := hReferenceIdeal) (hPre_positions_differ := hPre_positions_differ)
-- ==== Pre_positions_differ.lean ====
abbrev S12x1024x2048 : Shape := ⟨3, ![12, 1024, 2048]⟩
abbrev S12x1024x16 : Shape := ⟨3, ![12, 1024, 16]⟩
abbrev S2048x2560 : Shape := ⟨2, ![2048, 2560]⟩
abbrev S2048x160 : Shape := ⟨2, ![2048, 160]⟩
abbrev S2048 : Shape := ⟨1, ![2048]⟩
abbrev S8 : Shape := ⟨1, ![8]⟩
abbrev S_ : Shape := ⟨0, ![]⟩
abbrev S2048x160x1 : Shape := ⟨3, ![2048, 160, 1]⟩
abbrev S1x1x8 : Shape := ⟨3, ![1, 1, 8]⟩
abbrev S2048x160x8 : Shape := ⟨3, ![2048, 160, 8]⟩

class Facts : Prop where
  bcast_S_S8 : S_.BroadcastsInDim S8 (![] : Fin 0 → Fin S8.rank)
  bcast_S2048x160_S2048x160x1_0_1 : S2048x160.BroadcastsInDim S2048x160x1 (![0, 1] : Fin 2 → Fin S2048x160x1.rank)
  bcast_S8_S1x1x8_2 : S8.BroadcastsInDim S1x1x8 (![2] : Fin 1 → Fin S1x1x8.rank)
  bcast_S2048x160x1_S2048x160x8_0_1_2 : S2048x160x1.BroadcastsInDim S2048x160x8 (![0, 1, 2] : Fin 3 → Fin S2048x160x8.rank)
  bcast_S1x1x8_S2048x160x8_0_1_2 : S1x1x8.BroadcastsInDim S2048x160x8 (![0, 1, 2] : Fin 3 → Fin S2048x160x8.rank)
  bcast_S_S2048x160x8 : S_.BroadcastsInDim S2048x160x8 (![] : Fin 0 → Fin S2048x160x8.rank)

variable [Facts]

def fn {F : FTy → Type} [FloatOps F] (main_arg0 : FVec F S12x1024x2048 .fp8e5m2) (main_arg1 : FVec F S12x1024x16 .f32) (main_arg2 : IVec S2048x2560 8) (main_arg3 : IVec S2048x160 32) (main_arg4 : FVec F S2048 .f32) : IVec S2048x160x8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := muli main_v1 main_v0
  let main_v3 : IVec S2048x160x1 32 := broadcastInDim S2048x160x1 ![0, 1] bcast_S2048x160_S2048x160x1_0_1 main_arg3
  let main_v4 : IVec S1x1x8 32 := broadcastInDim S1x1x8 ![2] bcast_S8_S1x1x8_2 main_v2
  let main_v5 : IVec S2048x160x8 32 := broadcastInDim S2048x160x8 ![0, 1, 2] bcast_S2048x160x1_S2048x160x8_0_1_2 main_v3
  let main_v6 : IVec S2048x160x8 32 := broadcastInDim S2048x160x8 ![0, 1, 2] bcast_S1x1x8_S2048x160x8_0_1_2 main_v4
  let main_v7 : IVec S2048x160x8 32 := Host.shrsi main_v5 main_v6
  let main_c_0 : IVec S_ 32 := constantI S_ 32 3#32
  let main_v8 : IVec S2048x160x8 32 := broadcastInDim S2048x160x8 ![] bcast_S_S2048x160x8 main_c_0
  let main_v9 : IVec S2048x160x8 32 := andi main_v7 main_v8
  let main_v10 : IVec S2048x160x1 32 := broadcastInDim S2048x160x1 ![0, 1] bcast_S2048x160_S2048x160x1_0_1 main_arg3
  let main_c_1 : IVec S_ 32 := constantI S_ 32 2#32
  let main_v11 : IVec S8 32 := broadcastInDim S8 ![] bcast_S_S8 main_c_1
  let main_v12 : IVec S8 32 := addi main_v2 main_v11
  let main_v13 : IVec S1x1x8 32 := broadcastInDim S1x1x8 ![2] bcast_S8_S1x1x8_2 main_v12
  let main_v14 : IVec S2048x160x8 32 := broadcastInDim S2048x160x8 ![0, 1, 2] bcast_S2048x160x1_S2048x160x8_0_1_2 main_v10
  let main_v15 : IVec S2048x160x8 32 := broadcastInDim S2048x160x8 ![0, 1, 2] bcast_S1x1x8_S2048x160x8_0_1_2 main_v13
  let main_v16 : IVec S2048x160x8 32 := Host.shrsi main_v14 main_v15
  let main_c_2 : IVec S_ 32 := constantI S_ 32 3#32
  let main_v17 : IVec S2048x160x8 32 := broadcastInDim S2048x160x8 ![] bcast_S_S2048x160x8 main_c_2
  let main_v18 : IVec S2048x160x8 32 := andi main_v16 main_v17
  let main_v19 : IVec S2048x160x8 1 := cmpi .ne main_v9 main_v18
  main_v19
-- ==== Kernel.lean ====
abbrev S12x1024x2048 : Shape := ⟨3, ![12, 1024, 2048]⟩
abbrev S12x1024x16 : Shape := ⟨3, ![12, 1024, 16]⟩
abbrev S2048x2560 : Shape := ⟨2, ![2048, 2560]⟩
abbrev S2048x160 : Shape := ⟨2, ![2048, 160]⟩
abbrev S2048 : Shape := ⟨1, ![2048]⟩
abbrev S12288x2048 : Shape := ⟨2, ![12288, 2048]⟩
abbrev S12288x16 : Shape := ⟨2, ![12288, 16]⟩
abbrev S2048x1 : Shape := ⟨2, ![2048, 1]⟩
abbrev S2048x5120 : Shape := ⟨2, ![2048, 5120]⟩
abbrev S256x2560 : Shape := ⟨2, ![256, 2560]⟩
abbrev S256x160 : Shape := ⟨2, ![256, 160]⟩
abbrev S256x1 : Shape := ⟨2, ![256, 1]⟩
abbrev S256x5120 : Shape := ⟨2, ![256, 5120]⟩
abbrev S64x2560 : Shape := ⟨2, ![64, 2560]⟩
abbrev S64x160 : Shape := ⟨2, ![64, 160]⟩
abbrev S64x128 : Shape := ⟨2, ![64, 128]⟩
abbrev S64x128x1 : Shape := ⟨3, ![64, 128, 1]⟩
abbrev S64x32 : Shape := ⟨2, ![64, 32]⟩
abbrev S256x128 : Shape := ⟨2, ![256, 128]⟩
abbrev S12288x5120 : Shape := ⟨2, ![12288, 5120]⟩
abbrev S1024x2048 : Shape := ⟨2, ![1024, 2048]⟩
abbrev S1024x16 : Shape := ⟨2, ![1024, 16]⟩
abbrev S1024x5120 : Shape := ⟨2, ![1024, 5120]⟩
abbrev S1024x1 : Shape := ⟨2, ![1024, 1]⟩
abbrev S1024x128 : Shape := ⟨2, ![1024, 128]⟩
abbrev S2048x512 : Shape := ⟨2, ![2048, 512]⟩
abbrev S1024x512 : Shape := ⟨2, ![1024, 512]⟩

abbrev nBuf : Space → Nat
  | .hbm => 10
  | .vmem => 16
  | .smem => 0
  | _ => 0

abbrev bufTy : (tb : Table) → Fin (tcTables nBuf tb) → BufTy
  | .hbm, ⟨0, _⟩ => ⟨S12x1024x2048, .fp8e5m2⟩
  | .hbm, ⟨1, _⟩ => ⟨S12x1024x16, .f32⟩
  | .hbm, ⟨2, _⟩ => ⟨S2048x2560, .i8⟩
  | .hbm, ⟨3, _⟩ => ⟨S2048x160, .i32⟩
  | .hbm, ⟨4, _⟩ => ⟨S2048, .f32⟩
  | .hbm, ⟨5, _⟩ => ⟨S12288x2048, .fp8e5m2⟩
  | .hbm, ⟨6, _⟩ => ⟨S12288x16, .f32⟩
  | .hbm, ⟨7, _⟩ => ⟨S2048x1, .f32⟩
  | .hbm, ⟨8, _⟩ => ⟨S2048x5120, .bf16⟩
  | .hbm, ⟨9, _⟩ => ⟨S12288x5120, .bf16⟩
  | .local _ .vmem, ⟨0, _⟩ => ⟨S256x2560, .i8⟩
  | .local _ .vmem, ⟨1, _⟩ => ⟨S256x2560, .i8⟩
  | .local _ .vmem, ⟨2, _⟩ => ⟨S256x160, .i32⟩
  | .local _ .vmem, ⟨3, _⟩ => ⟨S256x160, .i32⟩
  | .local _ .vmem, ⟨4, _⟩ => ⟨S256x1, .f32⟩
  | .local _ .vmem, ⟨5, _⟩ => ⟨S256x1, .f32⟩
  | .local _ .vmem, ⟨6, _⟩ => ⟨S256x5120, .bf16⟩
  | .local _ .vmem, ⟨7, _⟩ => ⟨S256x5120, .bf16⟩
  | .local _ .vmem, ⟨8, _⟩ => ⟨S1024x2048, .fp8e5m2⟩
  | .local _ .vmem, ⟨9, _⟩ => ⟨S1024x2048, .fp8e5m2⟩
  | .local _ .vmem, ⟨10, _⟩ => ⟨S1024x16, .f32⟩
  | .local _ .vmem, ⟨11, _⟩ => ⟨S1024x16, .f32⟩
  | .local _ .vmem, ⟨12, _⟩ => ⟨S2048x5120, .bf16⟩
  | .local _ .vmem, ⟨13, _⟩ => ⟨S1024x5120, .bf16⟩
  | .local _ .vmem, ⟨14, _⟩ => ⟨S1024x5120, .bf16⟩
  | .local _ .vmem, ⟨15, _⟩ => ⟨S1024x2048, .bf16⟩
  | _, _ => ⟨S12x1024x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x160 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x5120 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x5120 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S12x1024x2048 : Shape := ⟨3, ![12, 1024, 2048]⟩
abbrev S12x1024x16 : Shape := ⟨3, ![12, 1024, 16]⟩
abbrev S2048x2560 : Shape := ⟨2, ![2048, 2560]⟩
abbrev S2048x160 : Shape := ⟨2, ![2048, 160]⟩
abbrev S2048 : Shape := ⟨1, ![2048]⟩
abbrev S12288x2048 : Shape := ⟨2, ![12288, 2048]⟩
abbrev S12288x16 : Shape := ⟨2, ![12288, 16]⟩
abbrev S2048x1 : Shape := ⟨2, ![2048, 1]⟩
abbrev S12288x5120 : Shape := ⟨2, ![12288, 5120]⟩
abbrev S2048x160x16 : Shape := ⟨3, ![2048, 160, 16]⟩
abbrev S2048x160x1 : Shape := ⟨3, ![2048, 160, 1]⟩
abbrev S2048x1280x2 : Shape := ⟨3, ![2048, 1280, 2]⟩
abbrev S2048x1280x4 : Shape := ⟨3, ![2048, 1280, 4]⟩
abbrev S2048x1280x1 : Shape := ⟨3, ![2048, 1280, 1]⟩
abbrev S2048x5120 : Shape := ⟨2, ![2048, 5120]⟩
abbrev S12288x16x128 : Shape := ⟨3, ![12288, 16, 128]⟩
abbrev S12288x16x1 : Shape := ⟨3, ![12288, 16, 1]⟩

abbrev nBuf : Space → Nat
  | .hbm => 9
  | .vmem => 6
  | .smem => 0
  | _ => 0

abbrev bufTy : (tb : Table) → Fin (tcTables nBuf tb) → BufTy
  | .hbm, ⟨0, _⟩ => ⟨S12x1024x2048, .fp8e5m2⟩
  | .hbm, ⟨1, _⟩ => ⟨S12x1024x16, .f32⟩
  | .hbm, ⟨2, _⟩ => ⟨S2048x2560, .i8⟩
  | .hbm, ⟨3, _⟩ => ⟨S2048x160, .i32⟩
  | .hbm, ⟨4, _⟩ => ⟨S2048, .f32⟩
  | .hbm, ⟨5, _⟩ => ⟨S12288x2048, .fp8e5m2⟩
  | .hbm, ⟨6, _⟩ => ⟨S12288x16, .f32⟩
  | .hbm, ⟨7, _⟩ => ⟨S2048x1, .f32⟩
  | .hbm, ⟨8, _⟩ => ⟨S12288x5120, .bf16⟩
  | .local _ .vmem, ⟨0, _⟩ => ⟨S12288x2048, .fp8e5m2⟩
  | .local _ .vmem, ⟨1, _⟩ => ⟨S12288x16, .f32⟩
  | .local _ .vmem, ⟨2, _⟩ => ⟨S2048x2560, .i8⟩
  | .local _ .vmem, ⟨3, _⟩ => ⟨S2048x160, .i32⟩
  | .local _ .vmem, ⟨4, _⟩ => ⟨S2048x1, .f32⟩
  | .local _ .vmem, ⟨5, _⟩ => ⟨S12288x5120, .bf16⟩
  | _, _ => ⟨S12x1024x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x160 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/- The mathematics both programs are shown to compute: a 2:4 sparse weight matrix made dense, and the gradient's
   product with it. -/
module

public import Idealize.ShloMosaic.PureOps.Ideal
public import Idealize.ShloMosaic.Lib.ValueIdxCore

@[expose] public section

noncomputable section

namespace Cert.Math

open Idealize.ShloMosaic Idealize.ShloMosaic.ValueIdx

/-- The two-bit field of `m` from bit `k` on is the position `p`. -/
def hit (m : BitVec 32) (k : Nat) (p : Nat) : Prop := (m >>> k) &&& 3#32 = BitVec.ofNat 32 p

/-- Whether a field is a position can be decided. -/
instance (m : BitVec 32) (k p : Nat) : Decidable (hit m k p) := by unfold hit; infer_instance

/-- The two kept positions of every group of four differ: no position is hit by both fields of a group. -/
def Differ {R : Nat} (mt : (⟨2, ![R, 160]⟩ : Shape).Idx → BitVec 32) : Prop :=
  ∀ (k : Fin R) (w : Fin 160) (g : Nat), g < 8 → ∀ p : Nat,
    ¬ (hit (mt (ix2 k w)) (4 * g) p ∧ hit (mt (ix2 k w)) (4 * g + 2) p)

/-- The dense weight at row `k`, column `j`: the kept values of group `j / 4` whose position is `j mod 4`, times the
    row's scale. -/
def weight {R : Nat} (vals : (⟨2, ![R, 2560]⟩ : Shape).Idx → BitVec 8) (mt : (⟨2, ![R, 160]⟩ : Shape).Idx → BitVec 32)
    (ws : (⟨2, ![R, 1]⟩ : Shape).Idx → EReal) (k : Fin R) (j : Fin 5120) : EReal :=
  ((if hit (mt (ix2 k (⟨j.val / 32, by omega⟩ : Fin 160))) (4 * (j.val / 4 % 8)) (j.val % 4)
      then Ideal.ofBits .fp8e4m3 (vals (ix2 k (⟨2 * (j.val / 4), by omega⟩ : Fin 2560))) else 0)
    + (if hit (mt (ix2 k (⟨j.val / 32, by omega⟩ : Fin 160))) (4 * (j.val / 4 % 8) + 2) (j.val % 4)
      then Ideal.ofBits .fp8e4m3 (vals (ix2 k (⟨2 * (j.val / 4) + 1, by omega⟩ : Fin 2560))) else 0))
    * ws (ix2 k (0 : Fin 1))

/-- The scaled gradient at row `r`, column `k`: the code times the scale of its block of 128 columns. -/
def grad {R : Nat} (dy : (⟨2, ![R, 2048]⟩ : Shape).Idx → EReal) (ds : (⟨2, ![R, 16]⟩ : Shape).Idx → EReal)
    (r : Fin R) (k : Fin 2048) : EReal :=
  dy (ix2 r k) * ds (ix2 r (⟨k.val / 128, by omega⟩ : Fin 16))

/-- The result at row `r`, column `j`. -/
def result {R : Nat} (dy : (⟨2, ![R, 2048]⟩ : Shape).Idx → EReal) (ds : (⟨2, ![R, 16]⟩ : Shape).Idx → EReal)
    (w : Fin 2048 → Fin 5120 → EReal) (r : Fin R) (j : Fin 5120) : EReal :=
  ∑ k : Fin 2048, grad dy ds r k * w k j

end Cert.Math

end
-- ==== Proof.Fields.lean ====
/- The two-bit fields of a position word, as an arithmetic shift reads them; and the precondition as a fact about them. -/
module

public import proofs.«01_k».proof.Pre_positions_differ
public import proofs.«01_k».proof.Proof.Spec
public import Idealize.ShloMosaic.Lib.Pointwise

@[expose] public section

noncomputable section

namespace Cert.Math

open Idealize.ShloMosaic

/-- The mask 3 has no bit from bit 2 on. -/
theorem three_high : ∀ q : Fin 32, 2 ≤ q.val → (3#32)[q.val] = false := by decide

/-- The low two bits of a word shifted right by at most 30 do not depend on what is shifted in. -/
theorem field_signed (m : BitVec 32) (n : Nat) (hn : n ≤ 30) : m.sshiftRight n &&& 3#32 = (m >>> n) &&& 3#32 := by
  ext q hq
  simp only [BitVec.getElem_and, BitVec.getElem_sshiftRight, BitVec.getElem_ushiftRight]
  by_cases h : q < 2
  · have : n + q < 32 := by omega
    simp [this]
  · have h3 : (3#32)[q] = false := three_high ⟨q, hq⟩ (Nat.le_of_not_lt h)
    simp [h3]

/-- The field an in-range arithmetic shift and a mask read. -/
theorem field_eq (u : ArithUnit) (m a : BitVec 32) (n : Nat) (ha : a = BitVec.ofNat 32 n) (hn : n ≤ 30) :
    IntOp.andi (IntOp.shrsi u m a) 3#32 = (m >>> n) &&& 3#32 := by
  subst ha
  have e : (BitVec.ofNat 32 n).toNat = n := by rw [BitVec.toNat_ofNat]; exact Nat.mod_eq_of_lt (by omega)
  unfold IntOp.andi IntOp.shrsi
  rw [if_pos (by rw [e]; omega), BitVec.sshiftRight', e]
  exact field_signed m n hn

/-- A choice on "the field is `p`" is a choice on the hit. -/
theorem select_hit {α : Type} (m f : BitVec 32) (n p : Nat) (hf : f = (m >>> n) &&& 3#32) (a b : α) :
    Scalar.select (IntOp.cmpi CmpIPredicate.eq f (BitVec.ofNat 32 p)) a b = if hit m n p then a else b := by
  subst hf
  by_cases h : hit m n p
  · rw [if_pos h, show (m >>> n) &&& 3#32 = BitVec.ofNat 32 p from h]
    simp [Scalar.select, IntOp.cmpi]
  · have h' : ¬ (m >>> n) &&& 3#32 = BitVec.ofNat 32 p := h
    rw [if_neg h]
    simp only [Scalar.select, IntOp.cmpi, beq_eq_false_iff_ne.2 h']
    rfl

/-- The side conditions of the precondition's operations. -/
instance pre_facts : Cert.Pre_positions_differ.Facts where
  bcast_S_S8 := by decide
  bcast_S2048x160_S2048x160x1_0_1 := by decide
  bcast_S8_S1x1x8_2 := by decide
  bcast_S2048x160x1_S2048x160x8_0_1_2 := by decide
  bcast_S1x1x8_S2048x160x8_0_1_2 := by decide
  bcast_S_S2048x160x8 := by decide

/-- The precondition says that the two positions of every group differ. -/
theorem differ_of_pre (a0 : FVec Ideal Cert.Pre_positions_differ.S12x1024x2048 .fp8e5m2) (a1 : FVec Ideal Cert.Pre_positions_differ.S12x1024x16 .f32)
    (a2 : IVec Cert.Pre_positions_differ.S2048x2560 8) (a3 : IVec Cert.Pre_positions_differ.S2048x160 32) (a4 : FVec Ideal Cert.Pre_positions_differ.S2048 .f32)
    (h : Cert.Pre_positions_differ.fn (F := Ideal) a0 a1 a2 a3 a4 = fun _ => 1#1) : Differ (R := 2048) a3 := by
  intro k w g hg p ⟨h0, h1⟩
  have hb := congrFun h (ValueIdx.ix3 k w (⟨g, hg⟩ : Fin 8))
  have e : Cert.Pre_positions_differ.fn (F := Ideal) a0 a1 a2 a3 a4 (ValueIdx.ix3 k w (⟨g, hg⟩ : Fin 8))
      = IntOp.cmpi .ne (IntOp.andi (IntOp.shrsi .host (a3 (ValueIdx.ix2 k w)) (IntOp.muli 4#32 (BitVec.ofNat 32 g))) 3#32)
          (IntOp.andi (IntOp.shrsi .host (a3 (ValueIdx.ix2 k w)) (IntOp.addi (IntOp.muli 4#32 (BitVec.ofNat 32 g)) 2#32)) 3#32) := by
    rw [← ix2_eq_valueIdx, ← ix3_eq_valueIdx]
    pointwise [Cert.Pre_positions_differ.fn]
  rw [e, field_eq .host _ _ (4 * g) (by unfold IntOp.muli; rw [← BitVec.ofNat_mul]) (by omega),
    field_eq .host _ _ (4 * g + 2) (by unfold IntOp.muli IntOp.addi; rw [← BitVec.ofNat_mul, ← BitVec.ofNat_add]) (by omega)] at hb
  unfold hit at h0 h1
  rw [h0, h1] at hb
  unfold IntOp.cmpi at hb
  simp at hb

end Cert.Math

end
-- ==== Proof.Tile.lean ====
/- The tiles of the expansion call, spelt once: the integer division and remainder by a literal that every tile
   computes of its lane numbers, the gather along a row, the byte tile that unpacks the position words, and the tile
   of 128 output columns. The block the body leaves is the list of forty such tiles. -/
module

public import proofs.«01_k».proof.Proof.Gen.KernelIdeal.Frame

@[expose] public section

set_option maxRecDepth 16384

noncomputable section

namespace Cert.KernelIdeal.Expand

open Idealize.ShloMosaic Cert.KernelIdeal Cert.KernelIdeal.Gen

variable {F : FTy → Type} [FloatOps F]

/-- The lane numbers: entry `(a, l)` is `l`. -/
def lane : IVec S64x128 32 := iota .tc S64x128 32 [1] iota_S64x128_d1_w32

/-- Floor division of the entries of `x` by the literal `c`, as the body computes it from the truncating one. -/
def fdiv (x : IVec S64x128 32) (c : BitVec 32) : IVec S64x128 32 :=
  select (andi (cmpi .ne (subi (extui 32 (cmpi .sgt x (broadcast S64x128 0#32)) natLt_1_32)
        (extui 32 (cmpi .slt x (broadcast S64x128 0#32)) natLt_1_32))
      (broadcast S64x128 (Scalar.subi (Scalar.extui (Scalar.cmpi .sgt c 0#32)) (Scalar.extui (Scalar.cmpi .slt c 0#32)))))
    (cmpi .ne (remsi x (broadcast S64x128 c)) (broadcast S64x128 0#32)))
    (subi (divsi x (broadcast S64x128 c)) (broadcast S64x128 1#32)) (divsi x (broadcast S64x128 c))

/-- The remainder of the entries of `x` by `n`, with the sign of `n`. -/
def fmodBy (x : IVec S64x128 32) (n : BitVec 32) : IVec S64x128 32 :=
  select (andi (xori (cmpi .slt (remsi x (broadcast S64x128 n)) (broadcast S64x128 0#32))
        (broadcastTo S64x128 (broadcast S64x128 (Scalar.cmpi .slt n 0#32)) broadcasts_S64x128_S64x128))
      (cmpi .ne (remsi x (broadcast S64x128 n)) (broadcast S64x128 0#32)))
    (addi (remsi x (broadcast S64x128 n)) (broadcast S64x128 n)) (remsi x (broadcast S64x128 n))

/-- The remainder by the literal `c`, zero replaced by one first. -/
def fmod (x : IVec S64x128 32) (c : BitVec 32) : IVec S64x128 32 :=
  fmodBy x (Scalar.select (Scalar.cmpi .eq c 0#32) 1#32 c)

/-- The gather along the rows: entry `(a, l)` is `seg (a, idx (a, l))`, a negative index counted from the end. -/
def gat (seg idx : IVec S64x128 32) : IVec S64x128 32 :=
  dynamicGather 1 seg (shapeCast S64x128 (shapeCast S64x128x1
    (select (cmpi .slt idx (broadcast S64x128 0#32)) (addi idx (broadcast S64x128 128#32)) idx)
    shapeCasts_S64x128_S64x128x1) shapeCasts_S64x128x1_S64x128)

/-- A byte tile: lane `l` of it takes byte `l mod 4` of the position word number `off + l / 4` of the segment, the four
    bytes of a word lying in the four planes `p0` to `p3`. -/
def byteTile (off : BitVec 32) (p0 p1 p2 p3 : IVec S64x128 32) : IVec S64x128 32 :=
  select (cmpi .eq (fmod lane 4#32) (broadcast S64x128 3#32))
    (gat p3 (addi (broadcast S64x128 off) (fdiv lane 4#32)))
    (select (cmpi .eq (fmod lane 4#32) (broadcast S64x128 2#32))
      (gat p2 (addi (broadcast S64x128 off) (fdiv lane 4#32)))
      (select (cmpi .eq (fmod lane 4#32) (broadcast S64x128 1#32))
        (gat p1 (addi (broadcast S64x128 off) (fdiv lane 4#32)))
        (gat p0 (addi (broadcast S64x128 off) (fdiv lane 4#32)))))

/-- The right shift that brings the lane's group to the low nibble of its byte. -/
def nibShift : IVec S64x128 32 := muli (broadcast S64x128 4#32) (fmod (fdiv lane 4#32) 2#32)

/-- The lane's position in its group, in both fields of the nibble, in each of the four bytes. -/
def want : IVec S64x128 32 :=
  muli (ori (fmod lane 4#32) (shli (fmod lane 4#32) (broadcast S64x128 2#32))) (broadcast S64x128 16843009#32)

/-- The first kept value's index in its segment, for the tile of column half `half`. -/
def base (half : BitVec 32) : IVec S64x128 32 :=
  addi (broadcast S64x128 half) (muli (broadcast S64x128 2#32) (fdiv lane 4#32))

/-- The comparison word: bits 0 and 2 of a byte are clear when the first and the second kept position of the lane's
    group are the lane's position. -/
def diff (bt : IVec S64x128 32) (xoff : BitVec 32) : IVec S64x128 32 :=
  ori (xori (shrui (gat bt (addi (broadcast S64x128 xoff) (fdiv lane 8#32))) nibShift) want)
    (shrui (xori (shrui (gat bt (addi (broadcast S64x128 xoff) (fdiv lane 8#32))) nibShift) want)
      (broadcast S64x128 1#32))

/-- The mask of the bytes whose bit 0 in `d` is clear. -/
def byteMask (d : IVec S64x128 32) : IVec S64x128 32 :=
  subi (shli (xori (andi d (broadcast S64x128 16843009#32)) (broadcast S64x128 16843009#32)) (broadcast S64x128 8#32))
    (xori (andi d (broadcast S64x128 16843009#32)) (broadcast S64x128 16843009#32))

/-- The words of a tile: the kept values' bytes where the position agrees, zero elsewhere. -/
def words (seg : IVec S64x128 32) (half : BitVec 32) (bt : IVec S64x128 32) (xoff : BitVec 32) : IVec S64x128 32 :=
  ori (andi (gat seg (base half)) (byteMask (diff bt xoff)))
    (andi (gat seg (addi (base half) (broadcast S64x128 1#32)))
      (byteMask (shrui (diff bt xoff) (broadcast S64x128 2#32))))

/-- A tile of the block: the words' bytes read as fp8 numbers, times the rows' scales. -/
def tile (ws : FVec F S256x1 .bf16) (seg : IVec S64x128 32) (half : BitVec 32) (bt : IVec S64x128 32)
    (xoff : BitVec 32) : FVec F S256x128 .bf16 :=
  mulf (extf .bf16 (bitcastToFloat .fp8e4m3 (bitcast S256x128 8 (words seg half bt xoff) bitcasts_S64x128_w32_S256x128_w8))
      bitsLt_fp8e4m3_bf16)
    (broadcastTo S256x128 ws broadcasts_S256x1_S256x128)

/-- The byte plane at shift `k` of the position words, four rows to a word. -/
def plane (mt : IVec S256x160 32) (k : BitVec 32) : IVec S64x160 32 :=
  bitcast S64x160 32 (trunci 8 (andi (shrui mt (broadcast S256x160 k)) (broadcast S256x160 255#32)) natLt_8_32)
    bitcasts_S256x160_w8_S64x160_w32

/-- The first 128 columns of a plane. -/
def planeLo (p : IVec S64x160 32) : IVec S64x128 32 := extractStridedSlice S64x128 ![0, 0] p slices_S64x160_o0_0_S64x128

/-- The last 32 columns of a plane, four times over. -/
def planeHi (p : IVec S64x160 32) : IVec S64x128 32 :=
  concatenate S64x128 1 [⟨S64x32, extractStridedSlice S64x32 ![0, 128] p slices_S64x160_o0_128_S64x32⟩,
    ⟨S64x32, extractStridedSlice S64x32 ![0, 128] p slices_S64x160_o0_128_S64x32⟩,
    ⟨S64x32, extractStridedSlice S64x32 ![0, 128] p slices_S64x160_o0_128_S64x32⟩,
    ⟨S64x32, extractStridedSlice S64x32 ![0, 128] p slices_S64x160_o0_128_S64x32⟩]
    concatenates_S64x32_S64x32_S64x32_S64x32_S64x128_d1

/-- A byte tile of the first 128 position words of a row, from word `off` on. -/
def bytesLo (mt : IVec S256x160 32) (off : BitVec 32) : IVec S64x128 32 :=
  byteTile off (planeLo (plane mt 0#32)) (planeLo (plane mt 8#32)) (planeLo (plane mt 16#32))
    (planeLo (plane mt 24#32))

/-- The byte tile of the last 32 position words of a row. -/
def bytesHi (mt : IVec S256x160 32) : IVec S64x128 32 :=
  byteTile 0#32 (planeHi (plane mt 0#32)) (planeHi (plane mt 8#32)) (planeHi (plane mt 16#32))
    (planeHi (plane mt 24#32))

/-- The kept values, four rows to a word. -/
def valWords (vals : IVec S256x2560 8) : IVec S64x2560 32 :=
  bitcast S64x2560 32 vals bitcasts_S256x2560_w8_S64x2560_w32

/-- The rows' scales as the body uses them. -/
def scales (ws : FVec F S256x1 .f32) : FVec F S256x1 .bf16 :=
  truncf .bf16 (shapeCast S256x1 ws shapeCasts_S256x1_S256x1) bitsLt_bf16_f32

/-- The forty tiles of a block, the last first. -/
def pieces (vals : IVec S256x2560 8) (mt : IVec S256x160 32) (ws : FVec F S256x1 .f32) :
    List (View.Piece (Elt F) S256x5120 .bf16) :=
  [⟨r0_42, tile (scales ws) (extractStridedSlice S64x128 ![0, 2432] (valWords vals) slices_S64x2560_o0_2432_S64x128) 64#32 (bytesHi mt) 112#32⟩,
    ⟨r0_41, tile (scales ws) (extractStridedSlice S64x128 ![0, 2432] (valWords vals) slices_S64x2560_o0_2432_S64x128) 0#32 (bytesHi mt) 96#32⟩,
    ⟨r0_40, tile (scales ws) (extractStridedSlice S64x128 ![0, 2304] (valWords vals) slices_S64x2560_o0_2304_S64x128) 64#32 (bytesHi mt) 80#32⟩,
    ⟨r0_39, tile (scales ws) (extractStridedSlice S64x128 ![0, 2304] (valWords vals) slices_S64x2560_o0_2304_S64x128) 0#32 (bytesHi mt) 64#32⟩,
    ⟨r0_38, tile (scales ws) (extractStridedSlice S64x128 ![0, 2176] (valWords vals) slices_S64x2560_o0_2176_S64x128) 64#32 (bytesHi mt) 48#32⟩,
    ⟨r0_37, tile (scales ws) (extractStridedSlice S64x128 ![0, 2176] (valWords vals) slices_S64x2560_o0_2176_S64x128) 0#32 (bytesHi mt) 32#32⟩,
    ⟨r0_36, tile (scales ws) (extractStridedSlice S64x128 ![0, 2048] (valWords vals) slices_S64x2560_o0_2048_S64x128) 64#32 (bytesHi mt) 16#32⟩,
    ⟨r0_35, tile (scales ws) (extractStridedSlice S64x128 ![0, 2048] (valWords vals) slices_S64x2560_o0_2048_S64x128) 0#32 (bytesHi mt) 0#32⟩,
    ⟨r0_34, tile (scales ws) (extractStridedSlice S64x128 ![0, 1920] (valWords vals) slices_S64x2560_o0_1920_S64x128) 64#32 (bytesLo mt 96#32) 112#32⟩,
    ⟨r0_33, tile (scales ws) (extractStridedSlice S64x128 ![0, 1920] (valWords vals) slices_S64x2560_o0_1920_S64x128) 0#32 (bytesLo mt 96#32) 96#32⟩,
    ⟨r0_32, tile (scales ws) (extractStridedSlice S64x128 ![0, 1792] (valWords vals) slices_S64x2560_o0_1792_S64x128) 64#32 (bytesLo mt 96#32) 80#32⟩,
    ⟨r0_31, tile (scales ws) (extractStridedSlice S64x128 ![0, 1792] (valWords vals) slices_S64x2560_o0_1792_S64x128) 0#32 (bytesLo mt 96#32) 64#32⟩,
    ⟨r0_30, tile (scales ws) (extractStridedSlice S64x128 ![0, 1664] (valWords vals) slices_S64x2560_o0_1664_S64x128) 64#32 (bytesLo mt 96#32) 48#32⟩,
    ⟨r0_29, tile (scales ws) (extractStridedSlice S64x128 ![0, 1664] (valWords vals) slices_S64x2560_o0_1664_S64x128) 0#32 (bytesLo mt 96#32) 32#32⟩,
    ⟨r0_28, tile (scales ws) (extractStridedSlice S64x128 ![0, 1536] (valWords vals) slices_S64x2560_o0_1536_S64x128) 64#32 (bytesLo mt 96#32) 16#32⟩,
    ⟨r0_27, tile (scales ws) (extractStridedSlice S64x128 ![0, 1536] (valWords vals) slices_S64x2560_o0_1536_S64x128) 0#32 (bytesLo mt 96#32) 0#32⟩,
    ⟨r0_26, tile (scales ws) (extractStridedSlice S64x128 ![0, 1408] (valWords vals) slices_S64x2560_o0_1408_S64x128) 64#32 (bytesLo mt 64#32) 112#32⟩,
    ⟨r0_25, tile (scales ws) (extractStridedSlice S64x128 ![0, 1408] (valWords vals) slices_S64x2560_o0_1408_S64x128) 0#32 (bytesLo mt 64#32) 96#32⟩,
    ⟨r0_24, tile (scales ws) (extractStridedSlice S64x128 ![0, 1280] (valWords vals) slices_S64x2560_o0_1280_S64x128) 64#32 (bytesLo mt 64#32) 80#32⟩,
    ⟨r0_23, tile (scales ws) (extractStridedSlice S64x128 ![0, 1280] (valWords vals) slices_S64x2560_o0_1280_S64x128) 0#32 (bytesLo mt 64#32) 64#32⟩,
    ⟨r0_22, tile (scales ws) (extractStridedSlice S64x128 ![0, 1152] (valWords vals) slices_S64x2560_o0_1152_S64x128) 64#32 (bytesLo mt 64#32) 48#32⟩,
    ⟨r0_21, tile (scales ws) (extractStridedSlice S64x128 ![0, 1152] (valWords vals) slices_S64x2560_o0_1152_S64x128) 0#32 (bytesLo mt 64#32) 32#32⟩,
    ⟨r0_20, tile (scales ws) (extractStridedSlice S64x128 ![0, 1024] (valWords vals) slices_S64x2560_o0_1024_S64x128) 64#32 (bytesLo mt 64#32) 16#32⟩,
    ⟨r0_19, tile (scales ws) (extractStridedSlice S64x128 ![0, 1024] (valWords vals) slices_S64x2560_o0_1024_S64x128) 0#32 (bytesLo mt 64#32) 0#32⟩,
    ⟨r0_18, tile (scales ws) (extractStridedSlice S64x128 ![0, 896] (valWords vals) slices_S64x2560_o0_896_S64x128) 64#32 (bytesLo mt 32#32) 112#32⟩,
    ⟨r0_17, tile (scales ws) (extractStridedSlice S64x128 ![0, 896] (valWords vals) slices_S64x2560_o0_896_S64x128) 0#32 (bytesLo mt 32#32) 96#32⟩,
    ⟨r0_16, tile (scales ws) (extractStridedSlice S64x128 ![0, 768] (valWords vals) slices_S64x2560_o0_768_S64x128) 64#32 (bytesLo mt 32#32) 80#32⟩,
    ⟨r0_15, tile (scales ws) (extractStridedSlice S64x128 ![0, 768] (valWords vals) slices_S64x2560_o0_768_S64x128) 0#32 (bytesLo mt 32#32) 64#32⟩,
    ⟨r0_14, tile (scales ws) (extractStridedSlice S64x128 ![0, 640] (valWords vals) slices_S64x2560_o0_640_S64x128) 64#32 (bytesLo mt 32#32) 48#32⟩,
    ⟨r0_13, tile (scales ws) (extractStridedSlice S64x128 ![0, 640] (valWords vals) slices_S64x2560_o0_640_S64x128) 0#32 (bytesLo mt 32#32) 32#32⟩,
    ⟨r0_12, tile (scales ws) (extractStridedSlice S64x128 ![0, 512] (valWords vals) slices_S64x2560_o0_512_S64x128) 64#32 (bytesLo mt 32#32) 16#32⟩,
    ⟨r0_11, tile (scales ws) (extractStridedSlice S64x128 ![0, 512] (valWords vals) slices_S64x2560_o0_512_S64x128) 0#32 (bytesLo mt 32#32) 0#32⟩,
    ⟨r0_10, tile (scales ws) (extractStridedSlice S64x128 ![0, 384] (valWords vals) slices_S64x2560_o0_384_S64x128) 64#32 (bytesLo mt 0#32) 112#32⟩,
    ⟨r0_9, tile (scales ws) (extractStridedSlice S64x128 ![0, 384] (valWords vals) slices_S64x2560_o0_384_S64x128) 0#32 (bytesLo mt 0#32) 96#32⟩,
    ⟨r0_8, tile (scales ws) (extractStridedSlice S64x128 ![0, 256] (valWords vals) slices_S64x2560_o0_256_S64x128) 64#32 (bytesLo mt 0#32) 80#32⟩,
    ⟨r0_7, tile (scales ws) (extractStridedSlice S64x128 ![0, 256] (valWords vals) slices_S64x2560_o0_256_S64x128) 0#32 (bytesLo mt 0#32) 64#32⟩,
    ⟨r0_6, tile (scales ws) (extractStridedSlice S64x128 ![0, 128] (valWords vals) slices_S64x2560_o0_128_S64x128) 64#32 (bytesLo mt 0#32) 48#32⟩,
    ⟨r0_5, tile (scales ws) (extractStridedSlice S64x128 ![0, 128] (valWords vals) slices_S64x2560_o0_128_S64x128) 0#32 (bytesLo mt 0#32) 32#32⟩,
    ⟨r0_4, tile (scales ws) (extractStridedSlice S64x128 ![0, 0] (valWords vals) slices_S64x2560_o0_0_S64x128) 64#32 (bytesLo mt 0#32) 16#32⟩,
    ⟨r0_3, tile (scales ws) (extractStridedSlice S64x128 ![0, 0] (valWords vals) slices_S64x2560_o0_0_S64x128) 0#32 (bytesLo mt 0#32) 0#32⟩]

/-- The block the body of the expansion leaves is the list of the forty tiles. -/
theorem out_eq (x0 : Vec F S256x2560 .i8) (x1 : Vec F S256x160 .i32) (x2 : Vec F S256x1 .f32) :
    out0_3 x0 x1 x2 = View.canon (pieces (View.ld x0 r0_0) (View.ld x1 r0_1) (View.ld x2 r0_2)) := rfl

end Cert.KernelIdeal.Expand

end
-- ==== Proof.Bytes.lean ====
/- The integer part of the expansion, element by element: what the lane arithmetic is at a lane, which bits of a
   position word reach which byte, and which byte of a tile is which kept value. -/
module

public import proofs.«01_k».proof.Proof.Tile
public import proofs.«01_k».proof.Proof.Spec
public import Idealize.ShloMosaic.Lib.BitcastFour
public import Idealize.ShloMosaic.Lib.Pipeline.Value

@[expose] public section

set_option maxRecDepth 16384

noncomputable section

namespace Cert.KernelIdeal.Expand

open Idealize.ShloMosaic Cert.KernelIdeal Cert.KernelIdeal.Gen Idealize.ShloMosaic.ValueIdx Cert.Math

/-! ## Words -/

/-- The word with the bit pattern `1` in each byte whose bit 0 in `d` is clear. -/
def clearBits (d : BitVec 32) : BitVec 32 := (d &&& 16843009#32) ^^^ 16843009#32

/-- The word `0x01010101` has a one exactly at the lowest bit of every byte. -/
theorem const_bit (q : Nat) (hq : q < 32) : (16843009#32).getLsbD q = decide (q % 8 = 0) := by
  have h : ∀ q : Fin 32, (16843009#32).getLsbD q = decide (q.val % 8 = 0) := by decide +kernel
  exact h ⟨q, hq⟩

/-- `clearBits` is the word of four bits. -/
theorem clearBits_eq (d : BitVec 32) :
    clearBits d = ((BitVec.ofBool (!d.getLsbD 0)).setWidth 32) ||| ((BitVec.ofBool (!d.getLsbD 8)).setWidth 32 <<< 8)
      ||| ((BitVec.ofBool (!d.getLsbD 16)).setWidth 32 <<< 16) ||| ((BitVec.ofBool (!d.getLsbD 24)).setWidth 32 <<< 24) := by
  apply BitVec.eq_of_getLsbD_eq
  intro q hq
  simp only [clearBits, BitVec.getLsbD_xor, BitVec.getLsbD_and, const_bit q hq]
  generalize hd : d.getLsbD = f
  have h : ∀ (q : Fin 32) (b0 b8 b16 b24 bq : Bool), (q.val = 0 → bq = b0) → (q.val = 8 → bq = b8) →
      (q.val = 16 → bq = b16) → (q.val = 24 → bq = b24) →
      ((bq && decide (q.val % 8 = 0)) ^^ decide (q.val % 8 = 0))
      = (((BitVec.ofBool (!b0)).setWidth 32) ||| ((BitVec.ofBool (!b8)).setWidth 32 <<< 8)
      ||| ((BitVec.ofBool (!b16)).setWidth 32 <<< 16) ||| ((BitVec.ofBool (!b24)).setWidth 32 <<< 24)).getLsbD q.val := by
    decide +kernel
  exact h ⟨q, hq⟩ (f 0) (f 8) (f 16) (f 24) (f q) (fun e => by rw [show q = 0 from e]) (fun e => by rw [show q = 8 from e])
    (fun e => by rw [show q = 16 from e]) (fun e => by rw [show q = 24 from e])

/-- Shifted by a byte and less itself, the word of the clear bits is the mask of their bytes. -/
theorem mask_bit (d : BitVec 32) (s : Fin 4) (q : Fin 8) :
    ((clearBits d <<< 8) - clearBits d).getLsbD (8 * s.val + q.val) = !d.getLsbD (8 * s.val) := by
  rw [clearBits_eq]
  have h : ∀ (b0 b8 b16 b24 : Bool) (s : Fin 4) (q : Fin 8),
      (((((BitVec.ofBool (!b0)).setWidth 32) ||| ((BitVec.ofBool (!b8)).setWidth 32 <<< 8)
      ||| ((BitVec.ofBool (!b16)).setWidth 32 <<< 16) ||| ((BitVec.ofBool (!b24)).setWidth 32 <<< 24)) <<< 8)
      - (((BitVec.ofBool (!b0)).setWidth 32) ||| ((BitVec.ofBool (!b8)).setWidth 32 <<< 8)
      ||| ((BitVec.ofBool (!b16)).setWidth 32 <<< 16) ||| ((BitVec.ofBool (!b24)).setWidth 32 <<< 24))).getLsbD (8 * s.val + q.val)
      = !(match s with | 0 => b0 | 1 => b8 | 2 => b16 | 3 => b24) := by decide +kernel
  rw [h]
  fin_cases s <;> rfl

/-- The lane's position in the four low bits of each byte: bits 0 and 2 are its bit 0, bits 1 and 3 its bit 1. -/
theorem want_bits (p : Fin 4) (s : Fin 4) (e : Fin 4) :
    ((BitVec.ofNat 32 (5 * p.val) * 16843009#32).getLsbD (8 * s.val + e.val)) = p.val.testBit (e.val % 2) := by
  revert p s e; decide +kernel

/-- Two bits of a word are a position when they are the position's bits. -/
theorem field_eq_iff (x : BitVec 32) (p : Fin 4) :
    x &&& 3#32 = BitVec.ofNat 32 p.val ↔ x.getLsbD 0 = p.val.testBit 0 ∧ x.getLsbD 1 = p.val.testBit 1 := by
  have h3 : ∀ q : Fin 32, (3#32).getLsbD q.val = decide (q.val < 2) := by decide +kernel
  have hp : ∀ (p : Fin 4) (q : Fin 32), (BitVec.ofNat 32 p.val).getLsbD q.val = (decide (q.val < 2) && p.val.testBit q.val) := by
    decide +kernel
  constructor
  · intro h
    have h0 := congrArg (fun y => y.getLsbD 0) h
    have h1 := congrArg (fun y => y.getLsbD 1) h
    simp only [BitVec.getLsbD_and] at h0 h1
    have := h3 0; have := h3 1; have := hp p 0; have := hp p 1
    simp_all
  · rintro ⟨h0, h1⟩
    apply BitVec.eq_of_getLsbD_eq
    intro q hq
    have e3 := h3 ⟨q, hq⟩
    have ep := hp p ⟨q, hq⟩
    dsimp only at e3 ep
    rw [BitVec.getLsbD_and, e3, ep]
    by_cases hlt : q < 2
    · have : q = 0 ∨ q = 1 := by omega
      rcases this with rfl | rfl
      · rw [h0]; exact Bool.and_comm _ _
      · rw [h1]; exact Bool.and_comm _ _
    · simp [hlt]

/-- `hit`, on the field's two bits. -/
theorem hit_bits (m : BitVec 32) (k : Nat) (p : Fin 4) :
    decide (hit m k p.val) = !((m.getLsbD k ^^ p.val.testBit 0) || (m.getLsbD (k + 1) ^^ p.val.testBit 1)) := by
  have h := field_eq_iff (m >>> k) p
  simp only [BitVec.getLsbD_ushiftRight, Nat.add_zero] at h
  rw [show decide (hit m k p.val) = decide (m.getLsbD k = p.val.testBit 0 ∧ m.getLsbD (k + 1) = p.val.testBit 1) from
    decide_eq_decide.2 h]
  clear h
  generalize m.getLsbD k = a; generalize m.getLsbD (k + 1) = b
  generalize p.val.testBit 0 = c; generalize p.val.testBit 1 = d
  revert a b c d; decide

/-- The comparison word of a byte word `x`, for the group in nibble `h` and position `p`. -/
def cmpWord (x : BitVec 32) (h p : Nat) : BitVec 32 :=
  ((x >>> (4 * h)) ^^^ (BitVec.ofNat 32 (5 * p) * 16843009#32))
    ||| (((x >>> (4 * h)) ^^^ (BitVec.ofNat 32 (5 * p) * 16843009#32)) >>> 1)

/-- Its bit `e` (0 or 2) of byte `s` is clear when that field of the nibble is the position. -/
theorem cmpWord_bit (x m : BitVec 32) (h : Fin 2) (p s : Fin 4) (e : Nat) (he : e = 0 ∨ e = 2) (k : Nat)
    (hk : k + 8 ≤ 32) (hx : ∀ q < 8, x.getLsbD (8 * s.val + q) = m.getLsbD (k + q)) :
    (cmpWord x h.val p.val).getLsbD (8 * s.val + e) = !decide (hit m (k + 4 * h.val + e) p.val) := by
  rw [hit_bits]
  have hs := s.isLt
  have hh := h.isLt
  have w0 := want_bits p s ⟨e, by omega⟩
  have w1 := want_bits p s ⟨e + 1, by omega⟩
  have t0 : e % 2 = 0 := by omega
  have t1 : (e + 1) % 2 = 1 := by omega
  dsimp only at w0 w1
  rw [t0] at w0; rw [t1] at w1
  unfold cmpWord
  simp only [BitVec.getLsbD_or, BitVec.getLsbD_ushiftRight, BitVec.getLsbD_xor]
  rw [w0, show 1 + (8 * s.val + e) = 8 * s.val + (e + 1) by omega, w1,
    show 4 * h.val + (8 * s.val + e) = 8 * s.val + (4 * h.val + e) by omega,
    show 4 * h.val + (8 * s.val + (e + 1)) = 8 * s.val + (4 * h.val + e + 1) by omega,
    hx (4 * h.val + e) (by omega), hx (4 * h.val + e + 1) (by omega),
    show k + (4 * h.val + e) = k + 4 * h.val + e by omega,
    show k + (4 * h.val + e + 1) = k + 4 * h.val + e + 1 by omega, Bool.not_not]

/-! ## Lanes -/

section Lanes
variable (a : Fin 64) (l : Fin 128)

/-- The lane number divided by four. -/
theorem fdiv4_lane : fdiv lane 4#32 (ix2 a l) = BitVec.ofNat 32 (l.val / 4) := by
  show fdiv lane 4#32 (ix2 (0 : Fin 64) l) = _
  revert l; decide +kernel

/-- The lane number divided by eight. -/
theorem fdiv8_lane : fdiv lane 8#32 (ix2 a l) = BitVec.ofNat 32 (l.val / 8) := by
  show fdiv lane 8#32 (ix2 (0 : Fin 64) l) = _
  revert l; decide +kernel

/-- The lane number modulo four. -/
theorem fmod4_lane : fmod lane 4#32 (ix2 a l) = BitVec.ofNat 32 (l.val % 4) := by
  show fmod lane 4#32 (ix2 (0 : Fin 64) l) = _
  revert l; decide +kernel

/-- The shift that picks the half of a byte belonging to the lane's group. -/
theorem nibShift_lane : nibShift (ix2 a l) = BitVec.ofNat 32 (4 * (l.val / 4 % 2)) := by
  show nibShift (ix2 (0 : Fin 64) l) = _
  revert l; decide +kernel

/-- The lane's position, written twice into every byte. -/
theorem want_lane : want (ix2 a l) = BitVec.ofNat 32 (5 * (l.val % 4)) * 16843009#32 := by
  show want (ix2 (0 : Fin 64) l) = _
  revert l; decide +kernel

end Lanes

/-- The gather reads the segment at the index, where the index is in range. -/
theorem gat_apply (seg idx : IVec S64x128 32) (a : Fin 64) (l c : Fin 128)
    (h : idx (ix2 a l) = BitVec.ofNat 32 c.val) : gat seg idx (ix2 a l) = seg (ix2 a c) := by
  unfold gat
  rw [shapeCast_shapeCast]
  have hsel : select (cmpi .slt idx (broadcast S64x128 0#32)) (addi idx (broadcast S64x128 128#32)) idx (ix2 a l)
      = BitVec.ofNat 32 c.val := by
    show Scalar.select (IntOp.cmpi .slt (idx (ix2 a l)) 0#32) (IntOp.addi (idx (ix2 a l)) 128#32) (idx (ix2 a l)) = _
    rw [h]
    clear h
    revert c; decide +kernel
  have hc : ∀ c : Fin 128, (BitVec.ofNat 32 c.val).toNat % 128 = c.val := by decide +kernel
  unfold dynamicGather
  refine congrArg seg ?_
  funext b
  refine Fin.cases ?_ (fun b => ?_) b
  · rfl
  · obtain rfl : b = 0 := Subsingleton.elim _ _
    apply Fin.ext
    show (select (cmpi .slt idx (broadcast S64x128 0#32)) (addi idx (broadcast S64x128 128#32)) idx (ix2 a l)).toNat % 128 = c.val
    rw [hsel]
    exact hc c

/-- A byte tile's lane `l` is plane `l mod 4` at column `off + l / 4`. -/
theorem byteTile_apply (P : Fin 4 → IVec S64x128 32) (off : Nat) (hoff : off ≤ 96) (a : Fin 64) (l c : Fin 128)
    (hc : c.val = off + l.val / 4) :
    byteTile (BitVec.ofNat 32 off) (P 0) (P 1) (P 2) (P 3) (ix2 a l) = P ⟨l.val % 4, by omega⟩ (ix2 a c) := by
  have hidx : addi (broadcast S64x128 (BitVec.ofNat 32 off)) (fdiv lane 4#32) (ix2 a l) = BitVec.ofNat 32 c.val := by
    show BitVec.ofNat 32 off + fdiv lane 4#32 (ix2 a l) = _
    rw [fdiv4_lane, ← BitVec.ofNat_add, hc]
  have hg (p : IVec S64x128 32) := gat_apply p _ a l c hidx
  have hm : ∀ b : Fin 4, cmpi .eq (fmod lane 4#32) (broadcast S64x128 (BitVec.ofNat 32 b.val)) (ix2 a l)
      = if l.val % 4 = b.val then 1#1 else 0#1 := by
    intro b
    show IntOp.cmpi .eq (fmod lane 4#32 (ix2 a l)) (BitVec.ofNat 32 b.val) = _
    rw [fmod4_lane]
    have h : ∀ x b : Fin 4, IntOp.cmpi .eq (BitVec.ofNat 32 x.val) (BitVec.ofNat 32 b.val) = if x.val = b.val then 1#1 else 0#1 := by
      decide +kernel
    exact h ⟨l.val % 4, by omega⟩ b
  unfold byteTile
  show Scalar.select (cmpi .eq (fmod lane 4#32) (broadcast S64x128 (BitVec.ofNat 32 (3 : Fin 4).val)) (ix2 a l)) (gat _ _ (ix2 a l))
    (Scalar.select (cmpi .eq (fmod lane 4#32) (broadcast S64x128 (BitVec.ofNat 32 (2 : Fin 4).val)) (ix2 a l)) (gat _ _ (ix2 a l))
      (Scalar.select (cmpi .eq (fmod lane 4#32) (broadcast S64x128 (BitVec.ofNat 32 (1 : Fin 4).val)) (ix2 a l)) (gat _ _ (ix2 a l))
        (gat _ _ (ix2 a l)))) = _
  rw [hm, hm, hm, hg, hg, hg, hg]
  have h4 : ∀ x : Fin 4, Scalar.select (if x.val = 3 then 1#1 else 0#1) (P 3 (ix2 a c))
      (Scalar.select (if x.val = 2 then 1#1 else 0#1) (P 2 (ix2 a c))
        (Scalar.select (if x.val = 1 then 1#1 else 0#1) (P 1 (ix2 a c)) (P 0 (ix2 a c)))) = P x (ix2 a c) := by
    intro x
    fin_cases x <;> rfl
  exact h4 ⟨l.val % 4, by omega⟩

/-! ## Bits of the planes -/

/-- Byte `s` of a word of the plane at shift `8 b` is byte `b` of the position word of row `4 a + s`. -/
theorem plane_bit (mt : IVec S256x160 32) (b : Fin 4) (a : Fin 64) (w : Fin 160) (s : Fin 4) (q : Nat) (hq : q < 8) :
    (plane mt (BitVec.ofNat 32 (8 * b.val)) (ix2 a w)).getLsbD (8 * s.val + q)
      = (mt (ix2 (⟨4 * a.val + s.val, by omega⟩ : Fin 256) w)).getLsbD (8 * b.val + q) := by
  unfold plane
  have hs := s.isLt
  have hb := b.isLt
  rw [bitcast_8_32_getLsbD_ix2 _ _ a w (8 * s.val + q) (by omega) (⟨4 * a.val + s.val, by omega⟩ : Fin 256)
    (by show 4 * a.val + s.val = _; omega), show (8 * s.val + q) % 8 = q by omega]
  show (BitVec.setWidth 8 (IntOp.andi (IntOp.shrui .vector (mt (ix2 (⟨4 * a.val + s.val, by omega⟩ : Fin 256) w))
    (BitVec.ofNat 32 (8 * b.val))) 255#32)).getLsbD q = _
  generalize mt (ix2 (⟨4 * a.val + s.val, by omega⟩ : Fin 256) w) = m
  have hsh : IntOp.shrui .vector m (BitVec.ofNat 32 (8 * b.val)) = m >>> (8 * b.val) := by
    have ht : (BitVec.ofNat 32 (8 * b.val)).toNat = 8 * b.val := by
      rw [BitVec.toNat_ofNat]; omega
    unfold IntOp.shrui
    rw [if_pos (by omega), BitVec.ushiftRight_eq', ht]
  rw [hsh]
  have h255 : ∀ q : Fin 8, (255#32).getLsbD q.val = true := by decide
  simp only [IntOp.andi, BitVec.getLsbD_setWidth, BitVec.getLsbD_and, BitVec.getLsbD_ushiftRight]
  have := h255 ⟨q, hq⟩
  dsimp only at this
  rw [this]
  simp [hq]

/-- The first 128 columns of a plane, at an index. -/
theorem planeLo_apply (p : IVec S64x160 32) (a : Fin 64) (c : Fin 128) :
    planeLo p (ix2 a c) = p (ix2 a (⟨c.val, by omega⟩ : Fin 160)) := by
  unfold planeLo extractStridedSlice
  refine congrArg p ?_
  funext b
  refine Fin.cases ?_ (fun b => ?_) b
  · exact Fin.ext (Nat.zero_add _)
  · obtain rfl : b = 0 := Subsingleton.elim _ _
    exact Fin.ext (Nat.zero_add _)

/-- The last 32 columns of a plane, four times over, at an index. -/
theorem planeHi_apply (p : IVec S64x160 32) (a : Fin 64) (c : Fin 128) :
    planeHi p (ix2 a c) = p (ix2 a (⟨128 + c.val % 32, by omega⟩ : Fin 160)) := by
  have h := concatenate_replicate_apply (t := S64x128) (s₁ := S64x32) 1 4
    (extractStridedSlice S64x32 ![0, 128] p slices_S64x160_o0_128_S64x32)
    concatenates_S64x32_S64x32_S64x32_S64x32_S64x128_d1 rfl (ix2 a c) (ix2 a (⟨c.val % 32, by omega⟩ : Fin 32)) rfl
    (fun b hb => by
      refine Fin.cases (fun _ => rfl) (fun b hb => ?_) b hb
      obtain rfl : b = 0 := Subsingleton.elim _ _
      exact absurd rfl hb)
  refine (show planeHi p (ix2 a c) = _ from h).trans ?_
  unfold extractStridedSlice
  refine congrArg p ?_
  funext b
  refine Fin.cases ?_ (fun b => ?_) b
  · exact Fin.ext (Nat.zero_add _)
  · obtain rfl : b = 0 := Subsingleton.elim _ _
    rfl

/-- What a byte tile is asked for: lane `l`'s word holds, for its four rows, byte `l mod 4` of position word
    `32 j + l / 4`. -/
def IsBytes (mt : IVec S256x160 32) (j : Nat) (bt : IVec S64x128 32) : Prop :=
  ∀ (a : Fin 64) (l : Fin 128) (w : Fin 160), w.val = 32 * j + l.val / 4 → ∀ (s : Fin 4) (q : Nat), q < 8 →
    (bt (ix2 a l)).getLsbD (8 * s.val + q)
      = (mt (ix2 (⟨4 * a.val + s.val, by omega⟩ : Fin 256) w)).getLsbD (8 * (l.val % 4) + q)

/-- The first four tiles of position bytes hold the bytes they are meant to hold. -/
theorem isBytes_lo (mt : IVec S256x160 32) (j : Nat) (hj : j < 4) : IsBytes mt j (bytesLo mt (BitVec.ofNat 32 (32 * j))) := by
  intro a l w hw s q hq
  have h := byteTile_apply (fun b => planeLo (plane mt (BitVec.ofNat 32 (8 * b.val)))) (32 * j) (by omega) a l
    ⟨32 * j + l.val / 4, by omega⟩ rfl
  rw [show bytesLo mt (BitVec.ofNat 32 (32 * j)) (ix2 a l) = _ from h, planeLo_apply]
  refine (plane_bit mt ⟨l.val % 4, by omega⟩ a _ s q hq).trans ?_
  rw [show (⟨32 * j + l.val / 4, by omega⟩ : Fin 160) = w from Fin.ext hw.symm]

/-- The last tile of position bytes, gathered from the short remainder of the words. -/
theorem isBytes_hi (mt : IVec S256x160 32) : IsBytes mt 4 (bytesHi mt) := by
  intro a l w hw s q hq
  have h := byteTile_apply (fun b => planeHi (plane mt (BitVec.ofNat 32 (8 * b.val)))) 0 (by omega) a l
    ⟨l.val / 4, by omega⟩ (by simp)
  rw [show bytesHi mt (ix2 a l) = _ from h, planeHi_apply]
  refine (plane_bit mt ⟨l.val % 4, by omega⟩ a _ s q hq).trans ?_
  rw [show (⟨128 + l.val / 4 % 32, by omega⟩ : Fin 160) = w from Fin.ext (by show 128 + l.val / 4 % 32 = w.val; omega)]

/-! ## The words of a tile -/

/-- A segment of the kept values' words: its columns are those of the values from `off` on, four rows to a word. -/
def IsSeg (vals : IVec S256x2560 8) (off : Nat) (seg : IVec S64x128 32) : Prop :=
  ∀ (a : Fin 64) (c : Fin 128) (k : Fin 2560), k.val = off + c.val → ∀ (s : Fin 4) (q : Nat), q < 8 →
    (seg (ix2 a c)).getLsbD (8 * s.val + q)
      = (vals (ix2 (⟨4 * a.val + s.val, by omega⟩ : Fin 256) k)).getLsbD q

/-- A slice of 128 columns of the packed values is the segment of values starting there. -/
theorem isSeg_slice (vals : IVec S256x2560 8) (off : Nat) (h : S64x2560.Slices ![0, off] S64x128) :
    IsSeg vals off (extractStridedSlice S64x128 ![0, off] (valWords vals) h) := by
  intro a c k hk s q hq
  have hs := s.isLt
  have e : extractStridedSlice S64x128 ![0, off] (valWords vals) h (ix2 a c) = valWords vals (ix2 a k) := by
    unfold extractStridedSlice
    refine congrArg (valWords vals) ?_
    funext b
    refine Fin.cases ?_ (fun b => ?_) b
    · exact Fin.ext (Nat.zero_add _)
    · obtain rfl : b = 0 := Subsingleton.elim _ _
      exact Fin.ext hk.symm
  rw [e]
  unfold valWords
  rw [bitcast_8_32_getLsbD_ix2 _ _ a k (8 * s.val + q) (by omega) (⟨4 * a.val + s.val, by omega⟩ : Fin 256)
    (by show 4 * a.val + s.val = _; omega), show (8 * s.val + q) % 8 = q by omega]

/-- The comparison word of a tile at a lane. -/
theorem diff_lane (bt : IVec S64x128 32) (xoff : Nat) (hx : xoff ≤ 112) (a : Fin 64) (l : Fin 128) :
    diff bt (BitVec.ofNat 32 xoff) (ix2 a l)
      = cmpWord (bt (ix2 a (⟨xoff + l.val / 8, by omega⟩ : Fin 128))) (l.val / 4 % 2) (l.val % 4) := by
  have hidx : addi (broadcast S64x128 (BitVec.ofNat 32 xoff)) (fdiv lane 8#32) (ix2 a l)
      = BitVec.ofNat 32 (⟨xoff + l.val / 8, by omega⟩ : Fin 128).val := by
    show BitVec.ofNat 32 xoff + fdiv lane 8#32 (ix2 a l) = _
    rw [fdiv8_lane, ← BitVec.ofNat_add]
  have hg := gat_apply bt _ a l _ hidx
  have hsh : ∀ (m : BitVec 32) (n : Nat), n < 32 → IntOp.shrui .vector m (BitVec.ofNat 32 n) = m >>> n := by
    intro m n hn
    have ht : (BitVec.ofNat 32 n).toNat = n := by rw [BitVec.toNat_ofNat]; omega
    unfold IntOp.shrui
    rw [if_pos (by omega), BitVec.ushiftRight_eq', ht]
  unfold diff
  show IntOp.ori (IntOp.xori (IntOp.shrui .vector (gat bt _ (ix2 a l)) (nibShift (ix2 a l))) (want (ix2 a l)))
    (IntOp.shrui .vector (IntOp.xori (IntOp.shrui .vector (gat bt _ (ix2 a l)) (nibShift (ix2 a l))) (want (ix2 a l))) (BitVec.ofNat 32 1)) = _
  rw [hg, nibShift_lane, want_lane, hsh _ _ (by omega), hsh _ 1 (by omega)]
  rfl

/-- Bit `q` of byte `s` of a tile's word: the first kept value's bit where the first position is the lane's, or the
    second's where the second is. -/
theorem words_bit (vals : IVec S256x2560 8) (mt : IVec S256x160 32) (t : Nat) (ht : t < 40) (seg bt : IVec S64x128 32)
    (hseg : IsSeg vals (128 * (t / 2)) seg) (hbt : IsBytes mt (t / 8) bt) (a : Fin 64) (l : Fin 128) (s : Fin 4)
    (q : Nat) (hq : q < 8) :
    (words seg (BitVec.ofNat 32 (64 * (t % 2))) bt (BitVec.ofNat 32 (16 * (t % 8))) (ix2 a l)).getLsbD (8 * s.val + q)
      = (((vals (ix2 (⟨4 * a.val + s.val, by omega⟩ : Fin 256) (⟨64 * t + 2 * (l.val / 4), by omega⟩ : Fin 2560))).getLsbD q
            && decide (hit (mt (ix2 (⟨4 * a.val + s.val, by omega⟩ : Fin 256) (⟨4 * t + l.val / 32, by omega⟩ : Fin 160)))
              (4 * (l.val / 4 % 8)) (l.val % 4)))
        || ((vals (ix2 (⟨4 * a.val + s.val, by omega⟩ : Fin 256) (⟨64 * t + 2 * (l.val / 4) + 1, by omega⟩ : Fin 2560))).getLsbD q
            && decide (hit (mt (ix2 (⟨4 * a.val + s.val, by omega⟩ : Fin 256) (⟨4 * t + l.val / 32, by omega⟩ : Fin 160)))
              (4 * (l.val / 4 % 8) + 2) (l.val % 4)))) := by
  have hs := s.isLt
  have hl := l.isLt
  have hb0 : base (BitVec.ofNat 32 (64 * (t % 2))) (ix2 a l)
      = BitVec.ofNat 32 (⟨64 * (t % 2) + 2 * (l.val / 4), by omega⟩ : Fin 128).val := by
    show BitVec.ofNat 32 (64 * (t % 2)) + BitVec.ofNat 32 2 * fdiv lane 4#32 (ix2 a l) = _
    rw [fdiv4_lane, ← BitVec.ofNat_mul, ← BitVec.ofNat_add]
  have hb1 : addi (base (BitVec.ofNat 32 (64 * (t % 2)))) (broadcast S64x128 1#32) (ix2 a l)
      = BitVec.ofNat 32 (⟨64 * (t % 2) + 2 * (l.val / 4) + 1, by omega⟩ : Fin 128).val := by
    show base (BitVec.ofNat 32 (64 * (t % 2))) (ix2 a l) + BitVec.ofNat 32 1 = _
    rw [hb0, ← BitVec.ofNat_add]
  have hv0 := gat_apply seg _ a l _ hb0
  have hv1 := gat_apply seg _ a l _ hb1
  have e0 := hseg a ⟨64 * (t % 2) + 2 * (l.val / 4), by omega⟩ ⟨64 * t + 2 * (l.val / 4), by omega⟩
    (by show 64 * t + 2 * (l.val / 4) = 128 * (t / 2) + (64 * (t % 2) + 2 * (l.val / 4)); omega) s q hq
  have e1 := hseg a ⟨64 * (t % 2) + 2 * (l.val / 4) + 1, by omega⟩ ⟨64 * t + 2 * (l.val / 4) + 1, by omega⟩
    (by show 64 * t + 2 * (l.val / 4) + 1 = 128 * (t / 2) + (64 * (t % 2) + 2 * (l.val / 4) + 1); omega) s q hq
  have hx : ∀ q < 8, (bt (ix2 a (⟨16 * (t % 8) + l.val / 8, by omega⟩ : Fin 128))).getLsbD (8 * s.val + q)
      = (mt (ix2 (⟨4 * a.val + s.val, by omega⟩ : Fin 256) (⟨4 * t + l.val / 32, by omega⟩ : Fin 160))).getLsbD
          (8 * ((16 * (t % 8) + l.val / 8) % 4) + q) := fun q hq => hbt a ⟨16 * (t % 8) + l.val / 8, by omega⟩ ⟨4 * t + l.val / 32, by omega⟩
    (by show 4 * t + l.val / 32 = 32 * (t / 8) + (16 * (t % 8) + l.val / 8) / 4; omega) s q hq
  have hd := diff_lane bt (16 * (t % 8)) (by omega) a l
  generalize hX : bt (ix2 a (⟨16 * (t % 8) + l.val / 8, by omega⟩ : Fin 128)) = X at hx hd
  generalize hM : mt (ix2 (⟨4 * a.val + s.val, by omega⟩ : Fin 256) (⟨4 * t + l.val / 32, by omega⟩ : Fin 160)) = M at hx ⊢
  have hc (e : Nat) (he : e = 0 ∨ e = 2) := cmpWord_bit X M ⟨l.val / 4 % 2, by omega⟩ ⟨l.val % 4, by omega⟩ s e he
    (8 * ((16 * (t % 8) + l.val / 8) % 4)) (by omega) hx
  have hc0 := hc 0 (Or.inl rfl)
  have hc2 := hc 2 (Or.inr rfl)
  dsimp only at hc0 hc2
  rw [show 8 * ((16 * (t % 8) + l.val / 8) % 4) + 4 * (l.val / 4 % 2) = 4 * (l.val / 4 % 8) by omega] at hc0 hc2
  have k0 := mask_bit (cmpWord X (l.val / 4 % 2) (l.val % 4)) s ⟨q, hq⟩
  have k1 := mask_bit (cmpWord X (l.val / 4 % 2) (l.val % 4) >>> 2) s ⟨q, hq⟩
  dsimp only at k0 k1
  rw [BitVec.getLsbD_ushiftRight, show 2 + 8 * s.val = 8 * s.val + 2 by omega, hc2, Bool.not_not] at k1
  rw [show (cmpWord X (l.val / 4 % 2) (l.val % 4)).getLsbD (8 * s.val) = _ from hc0, Bool.not_not] at k0
  have hm (d : IVec S64x128 32) : byteMask d (ix2 a l) = (clearBits (d (ix2 a l)) <<< 8) - clearBits (d (ix2 a l)) := rfl
  have hm0 := hm (diff bt (BitVec.ofNat 32 (16 * (t % 8))))
  have hm1 := hm (shrui (diff bt (BitVec.ofNat 32 (16 * (t % 8)))) (broadcast S64x128 2#32))
  rw [hd] at hm0
  rw [show shrui (diff bt (BitVec.ofNat 32 (16 * (t % 8)))) (broadcast S64x128 2#32) (ix2 a l)
      = diff bt (BitVec.ofNat 32 (16 * (t % 8))) (ix2 a l) >>> 2 from rfl, hd] at hm1
  unfold words
  show (IntOp.ori (IntOp.andi (gat seg _ (ix2 a l)) (byteMask _ (ix2 a l)))
    (IntOp.andi (gat seg _ (ix2 a l)) (byteMask _ (ix2 a l)))).getLsbD _ = _
  rw [hv0, hv1, hm0, hm1]
  simp only [IntOp.ori, IntOp.andi, BitVec.getLsbD_or, BitVec.getLsbD_and]
  rw [k0, k1, e0, e1]
  rfl

end Cert.KernelIdeal.Expand

end
-- ==== Proof.Expand.lean ====
/- The expansion call over the reals: the tile at an index is the dense weight, so is the block the body leaves, and so
   is the array the call leaves. -/
module

public import proofs.«01_k».proof.Proof.Bytes
public import Idealize.ShloMosaic.Lib.BitcastPair
public import Idealize.ShloMosaic.Lib.Pipeline.ValueKit.Geometry
public import Idealize.ShloMosaic.PureOps.IdealRules

@[expose] public section

set_option maxRecDepth 16384

noncomputable section

namespace Cert.KernelIdeal.Expand

open Idealize.ShloMosaic Idealize.ShloMosaic.TcCoe Cert.KernelIdeal Cert.KernelIdeal.Gen Idealize.ShloMosaic.ValueIdx Cert.Math
open Idealize.SL.Sem
open Idealize.ShloMosaic.Pipeline (Dat)

/-- Words read as bytes: bit `q` of the byte at row `p` is bit `8 (p mod 4) + q` of the word of row `p / 4`. -/
theorem bytes_getLsbD (x : IVec S64x128 32) (p : Fin 256) (l : Fin 128) (q : Nat) (hq : q < 8) :
    (bitcast S256x128 8 x bitcasts_S64x128_w32_S256x128_w8 (ix2 p l)).getLsbD q
      = (x (ix2 (⟨p.val / 4, by omega⟩ : Fin 64) l)).getLsbD (8 * (p.val % 4) + q) := by
  have h := bitcasts_S64x128_w32_S256x128_w8
  rw [bitcast_getLsbD x h _ q hq (by decide)]
  have hrow : Shape.row S256x128 (ix2 p l) = p.val := rfl
  have e1 : (Shape.row S256x128 (ix2 p l) * 8 + q) / 32 = p.val / 4 := by rw [hrow]; omega
  have e2 : (Shape.row S256x128 (ix2 p l) * 8 + q) % 32 = 8 * (p.val % 4) + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- A tile at an index is the dense weight there, where the positions of a group differ. -/
theorem tile_apply (vals : IVec S256x2560 8) (mt : IVec S256x160 32) (ws : FVec Ideal S256x1 .f32) (hm : Differ mt)
    (t : Nat) (ht : t < 40) (seg bt : IVec S64x128 32) (hseg : IsSeg vals (128 * (t / 2)) seg) (hbt : IsBytes mt (t / 8) bt)
    (r : Fin 256) (l : Fin 128) :
    tile (scales ws) seg (BitVec.ofNat 32 (64 * (t % 2))) bt (BitVec.ofNat 32 (16 * (t % 8))) (ix2 r l)
      = weight vals mt ws r ⟨128 * t + l.val, by omega⟩ := by
  have hl := l.isLt
  have hws : broadcastTo S256x128 (scales ws) broadcasts_S256x1_S256x128 (ix2 r l) = ws (ix2 r (0 : Fin 1)) := by
    show shapeCast S256x1 ws shapeCasts_S256x1_S256x1 _ = _
    rw [shapeCast_self]
    refine congrArg ws ?_
    funext b
    match b with
    | ⟨0, _⟩ => rfl
    | ⟨1, _⟩ => rfl
  have hbyte : bitcast S256x128 8 (words seg (BitVec.ofNat 32 (64 * (t % 2))) bt (BitVec.ofNat 32 (16 * (t % 8))))
        bitcasts_S64x128_w32_S256x128_w8 (ix2 r l)
      = if hit (mt (ix2 r (⟨(128 * t + l.val) / 32, by omega⟩ : Fin 160))) (4 * ((128 * t + l.val) / 4 % 8)) ((128 * t + l.val) % 4)
        then vals (ix2 r (⟨2 * ((128 * t + l.val) / 4), by omega⟩ : Fin 2560))
        else if hit (mt (ix2 r (⟨(128 * t + l.val) / 32, by omega⟩ : Fin 160))) (4 * ((128 * t + l.val) / 4 % 8) + 2) ((128 * t + l.val) % 4)
        then vals (ix2 r (⟨2 * ((128 * t + l.val) / 4) + 1, by omega⟩ : Fin 2560)) else 0#8 := by
    apply BitVec.eq_of_getLsbD_eq
    intro q hq
    rw [bytes_getLsbD _ r l q hq]
    rw [words_bit vals mt t ht seg bt hseg hbt (⟨r.val / 4, by omega⟩ : Fin 64) l ⟨r.val % 4, by omega⟩ q hq]
    have er : (⟨4 * (r.val / 4) + r.val % 4, by omega⟩ : Fin 256) = r := Fin.ext (by show 4 * (r.val / 4) + r.val % 4 = r.val; omega)
    have ew : (⟨4 * t + l.val / 32, by omega⟩ : Fin 160) = ⟨(128 * t + l.val) / 32, by omega⟩ := Fin.ext (by show 4 * t + l.val / 32 = (128 * t + l.val) / 32; omega)
    have e0 : (⟨64 * t + 2 * (l.val / 4), by omega⟩ : Fin 2560) = ⟨2 * ((128 * t + l.val) / 4), by omega⟩ :=
      Fin.ext (by show 64 * t + 2 * (l.val / 4) = 2 * ((128 * t + l.val) / 4); omega)
    have e1 : (⟨64 * t + 2 * (l.val / 4) + 1, by omega⟩ : Fin 2560) = ⟨2 * ((128 * t + l.val) / 4) + 1, by omega⟩ :=
      Fin.ext (by show 64 * t + 2 * (l.val / 4) + 1 = 2 * ((128 * t + l.val) / 4) + 1; omega)
    dsimp only
    rw [er, ew, e0, e1, show l.val / 4 % 8 = (128 * t + l.val) / 4 % 8 by omega, show l.val % 4 = (128 * t + l.val) % 4 by omega]
    have hd := hm r ⟨(128 * t + l.val) / 32, by omega⟩ ((128 * t + l.val) / 4 % 8) (by omega) ((128 * t + l.val) % 4)
    split_ifs with h0 h1
    · have h1 : ¬ hit _ _ _ := fun h1 => hd ⟨h0, h1⟩
      simp [h0, h1]
    · simp [h0, h1]
    · simp [h0, h1]
  show Ideal.ofBits .fp8e4m3 (bitcast S256x128 8 _ bitcasts_S64x128_w32_S256x128_w8 (ix2 r l))
    * broadcastTo S256x128 (scales ws) broadcasts_S256x1_S256x128 (ix2 r l) = _
  rw [hws, hbyte]
  unfold weight
  have hz : Ideal.ofBits .fp8e4m3 0#8 = (0 : EReal) := IdealRules.sign_bit.ideal_zero .fp8e4m3
  have hd := hm r ⟨(128 * t + l.val) / 32, by omega⟩ ((128 * t + l.val) / 4 % 8) (by omega) ((128 * t + l.val) % 4)
  dsimp only
  congr 1
  split_ifs with h0 h1
  · exact absurd ⟨h0, h1⟩ hd
  · exact (add_zero _).symm
  · exact (zero_add _).symm
  · exact hz.trans (add_zero _).symm

/-- The block of dense weights, at every index. -/
def weightBlock {R : Nat} (vals : (⟨2, ![R, 2560]⟩ : Shape).Idx → BitVec 8) (mt : (⟨2, ![R, 160]⟩ : Shape).Idx → BitVec 32)
    (ws : (⟨2, ![R, 1]⟩ : Shape).Idx → EReal) (y : (⟨2, ![R, 5120]⟩ : Shape).Idx) : EReal := weight vals mt ws (y 0) (y 1)

/-- A piece the body stores agrees with the block of dense weights at the place it is stored to. -/
theorem piece_eq (vals : IVec S256x2560 8) (mt : IVec S256x160 32) (ws : FVec Ideal S256x1 .f32) (hm : Differ mt)
    (t : Nat) (ht : t < 40) (seg bt : IVec S64x128 32) (hseg : IsSeg vals (128 * (t / 2)) seg) (hbt : IsBytes mt (t / 8) bt)
    (off : Fin 2 → Nat) (inb : ∀ a, off a + S256x128.size a ≤ S256x5120.size a) (h0 : off 0 = 0) (h1 : off 1 = 128 * t)
    (x : S256x128.Idx) :
    tile (scales ws) seg (BitVec.ofNat 32 (64 * (t % 2))) bt (BitVec.ofNat 32 (16 * (t % 8))) x
      = weightBlock vals mt ws ((Rect.unit (s := S256x5120) off S256x128.size inb).emb x) := by
  obtain ⟨r, l, rfl⟩ : ∃ (r : Fin 256) (l : Fin 128), x = ix2 r l := ⟨x 0, x 1, eq_ix2 x⟩
  rw [tile_apply vals mt ws hm t ht seg bt hseg hbt r l]
  have e0 : (Rect.unit (s := S256x5120) off S256x128.size inb).emb (ix2 r l) 0 = r :=
    Fin.ext (by show off 0 + 1 * r.val = r.val; omega)
  have e1 : (Rect.unit (s := S256x5120) off S256x128.size inb).emb (ix2 r l) 1 = (⟨128 * t + l.val, by omega⟩ : Fin 5120) :=
    Fin.ext (by show off 1 + 1 * l.val = 128 * t + l.val; omega)
  unfold weightBlock
  rw [e0, e1]

/-- The block the body leaves is the block of dense weights. -/
theorem out_apply (x0 : IVec S256x2560 8) (x1 : IVec S256x160 32) (x2 : FVec Ideal S256x1 .f32) (hm : Differ x1) :
    out0_3 (F := Ideal) x0 x1 x2 = weightBlock x0 x1 x2 := by
  have hz : (![0, 0] : Fin 2 → Nat) = fun _ => 0 := by funext a; fin_cases a <;> rfl
  rw [out_eq, View.ld_unit_zero hz, View.ld_unit_zero hz, View.ld_unit_zero hz]
  funext y
  refine View.canon_apply_of_pieces _ _ ?_ y (cover0_3 _ _ _ _ _ _ _ _ _ _ _ _ _ _ _ _ _ _ _ _ _ _ _ _ _ _ _ _ _ _ _ _ _ _ _ _ _ _ _ _ y)
  unfold pieces
  simp only [List.forall_mem_cons, List.not_mem_nil, false_imp_iff, implies_true, and_true]
  exact ⟨
    piece_eq x0 x1 x2 hm 39 (by decide) _ _ (isSeg_slice x0 2432 _) (isBytes_hi x1) _ _ rfl rfl,
    piece_eq x0 x1 x2 hm 38 (by decide) _ _ (isSeg_slice x0 2432 _) (isBytes_hi x1) _ _ rfl rfl,
    piece_eq x0 x1 x2 hm 37 (by decide) _ _ (isSeg_slice x0 2304 _) (isBytes_hi x1) _ _ rfl rfl,
    piece_eq x0 x1 x2 hm 36 (by decide) _ _ (isSeg_slice x0 2304 _) (isBytes_hi x1) _ _ rfl rfl,
    piece_eq x0 x1 x2 hm 35 (by decide) _ _ (isSeg_slice x0 2176 _) (isBytes_hi x1) _ _ rfl rfl,
    piece_eq x0 x1 x2 hm 34 (by decide) _ _ (isSeg_slice x0 2176 _) (isBytes_hi x1) _ _ rfl rfl,
    piece_eq x0 x1 x2 hm 33 (by decide) _ _ (isSeg_slice x0 2048 _) (isBytes_hi x1) _ _ rfl rfl,
    piece_eq x0 x1 x2 hm 32 (by decide) _ _ (isSeg_slice x0 2048 _) (isBytes_hi x1) _ _ rfl rfl,
    piece_eq x0 x1 x2 hm 31 (by decide) _ _ (isSeg_slice x0 1920 _) (isBytes_lo x1 3 (by decide)) _ _ rfl rfl,
    piece_eq x0 x1 x2 hm 30 (by decide) _ _ (isSeg_slice x0 1920 _) (isBytes_lo x1 3 (by decide)) _ _ rfl rfl,
    piece_eq x0 x1 x2 hm 29 (by decide) _ _ (isSeg_slice x0 1792 _) (isBytes_lo x1 3 (by decide)) _ _ rfl rfl,
    piece_eq x0 x1 x2 hm 28 (by decide) _ _ (isSeg_slice x0 1792 _) (isBytes_lo x1 3 (by decide)) _ _ rfl rfl,
    piece_eq x0 x1 x2 hm 27 (by decide) _ _ (isSeg_slice x0 1664 _) (isBytes_lo x1 3 (by decide)) _ _ rfl rfl,
    piece_eq x0 x1 x2 hm 26 (by decide) _ _ (isSeg_slice x0 1664 _) (isBytes_lo x1 3 (by decide)) _ _ rfl rfl,
    piece_eq x0 x1 x2 hm 25 (by decide) _ _ (isSeg_slice x0 1536 _) (isBytes_lo x1 3 (by decide)) _ _ rfl rfl,
    piece_eq x0 x1 x2 hm 24 (by decide) _ _ (isSeg_slice x0 1536 _) (isBytes_lo x1 3 (by decide)) _ _ rfl rfl,
    piece_eq x0 x1 x2 hm 23 (by decide) _ _ (isSeg_slice x0 1408 _) (isBytes_lo x1 2 (by decide)) _ _ rfl rfl,
    piece_eq x0 x1 x2 hm 22 (by decide) _ _ (isSeg_slice x0 1408 _) (isBytes_lo x1 2 (by decide)) _ _ rfl rfl,
    piece_eq x0 x1 x2 hm 21 (by decide) _ _ (isSeg_slice x0 1280 _) (isBytes_lo x1 2 (by decide)) _ _ rfl rfl,
    piece_eq x0 x1 x2 hm 20 (by decide) _ _ (isSeg_slice x0 1280 _) (isBytes_lo x1 2 (by decide)) _ _ rfl rfl,
    piece_eq x0 x1 x2 hm 19 (by decide) _ _ (isSeg_slice x0 1152 _) (isBytes_lo x1 2 (by decide)) _ _ rfl rfl,
    piece_eq x0 x1 x2 hm 18 (by decide) _ _ (isSeg_slice x0 1152 _) (isBytes_lo x1 2 (by decide)) _ _ rfl rfl,
    piece_eq x0 x1 x2 hm 17 (by decide) _ _ (isSeg_slice x0 1024 _) (isBytes_lo x1 2 (by decide)) _ _ rfl rfl,
    piece_eq x0 x1 x2 hm 16 (by decide) _ _ (isSeg_slice x0 1024 _) (isBytes_lo x1 2 (by decide)) _ _ rfl rfl,
    piece_eq x0 x1 x2 hm 15 (by decide) _ _ (isSeg_slice x0 896 _) (isBytes_lo x1 1 (by decide)) _ _ rfl rfl,
    piece_eq x0 x1 x2 hm 14 (by decide) _ _ (isSeg_slice x0 896 _) (isBytes_lo x1 1 (by decide)) _ _ rfl rfl,
    piece_eq x0 x1 x2 hm 13 (by decide) _ _ (isSeg_slice x0 768 _) (isBytes_lo x1 1 (by decide)) _ _ rfl rfl,
    piece_eq x0 x1 x2 hm 12 (by decide) _ _ (isSeg_slice x0 768 _) (isBytes_lo x1 1 (by decide)) _ _ rfl rfl,
    piece_eq x0 x1 x2 hm 11 (by decide) _ _ (isSeg_slice x0 640 _) (isBytes_lo x1 1 (by decide)) _ _ rfl rfl,
    piece_eq x0 x1 x2 hm 10 (by decide) _ _ (isSeg_slice x0 640 _) (isBytes_lo x1 1 (by decide)) _ _ rfl rfl,
    piece_eq x0 x1 x2 hm 9 (by decide) _ _ (isSeg_slice x0 512 _) (isBytes_lo x1 1 (by decide)) _ _ rfl rfl,
    piece_eq x0 x1 x2 hm 8 (by decide) _ _ (isSeg_slice x0 512 _) (isBytes_lo x1 1 (by decide)) _ _ rfl rfl,
    piece_eq x0 x1 x2 hm 7 (by decide) _ _ (isSeg_slice x0 384 _) (isBytes_lo x1 0 (by decide)) _ _ rfl rfl,
    piece_eq x0 x1 x2 hm 6 (by decide) _ _ (isSeg_slice x0 384 _) (isBytes_lo x1 0 (by decide)) _ _ rfl rfl,
    piece_eq x0 x1 x2 hm 5 (by decide) _ _ (isSeg_slice x0 256 _) (isBytes_lo x1 0 (by decide)) _ _ rfl rfl,
    piece_eq x0 x1 x2 hm 4 (by decide) _ _ (isSeg_slice x0 256 _) (isBytes_lo x1 0 (by decide)) _ _ rfl rfl,
    piece_eq x0 x1 x2 hm 3 (by decide) _ _ (isSeg_slice x0 128 _) (isBytes_lo x1 0 (by decide)) _ _ rfl rfl,
    piece_eq x0 x1 x2 hm 2 (by decide) _ _ (isSeg_slice x0 128 _) (isBytes_lo x1 0 (by decide)) _ _ rfl rfl,
    piece_eq x0 x1 x2 hm 1 (by decide) _ _ (isSeg_slice x0 0 _) (isBytes_lo x1 0 (by decide)) _ _ rfl rfl,
    piece_eq x0 x1 x2 hm 0 (by decide) _ _ (isSeg_slice x0 0 _) (isBytes_lo x1 0 (by decide)) _ _ rfl rfl⟩

end Cert.KernelIdeal.Expand

end
-- ==== Proof.Dgrad.lean ====
/- The product call over the reals: the block its body leaves is the block of results. -/
module

public import proofs.«01_k».proof.Proof.Gen.KernelIdeal.Frame
public import proofs.«01_k».proof.Proof.Spec
public import Idealize.ShloMosaic.Lib.Pointwise
public import Idealize.ShloMosaic.Lib.WholeRead
public import Idealize.ShloMosaic.Lib.Pipeline.Value
public import Idealize.ShloMosaic.Lib.Pipeline.ValueKit.Geometry

@[expose] public section

set_option maxRecDepth 16384

noncomputable section

namespace Cert.KernelIdeal.Dgrad

open Idealize.ShloMosaic Idealize.ShloMosaic.TcCoe Idealize.ShloMosaic.Tactic Cert.KernelIdeal Cert.KernelIdeal.Gen

section Generic

variable {F : FTy → Type} [FloatOps F]

/-- 128 columns of the gradient times their rows' scales. -/
def gtile (ds : Vec F S1024x1 .f32) (dy : Vec F S1024x128 .fp8e5m2) : Vec F S1024x128 .bf16 := k1_pay2 ds dy

/-- 512 columns of the product. -/
def otile (a : Vec F S1024x2048 .bf16) (w : Vec F S2048x512 .bf16) : Vec F S1024x512 .bf16 := k1_pay1 a w

/-- A block of 128 gradient columns lies inside the gradient. -/
theorem inb_g (b : Nat) (hb : b < 16) (a : Fin 2) : (![0, 128 * b] : Fin 2 → Nat) a + S1024x128.size a ≤ S1024x2048.size a := by
  match a with
  | ⟨0, _⟩ => exact Nat.le_refl 1024
  | ⟨1, _⟩ => show 128 * b + 128 ≤ 2048; omega

/-- A column of scales lies inside the scales. -/
theorem inb_s (b : Nat) (hb : b < 16) (a : Fin 2) : (![0, b] : Fin 2 → Nat) a + S1024x1.size a ≤ S1024x16.size a := by
  match a with
  | ⟨0, _⟩ => exact Nat.le_refl 1024
  | ⟨1, _⟩ => show b + 1 ≤ 16; omega

/-- A block of 512 weight columns lies inside the weights. -/
theorem inb_w (t : Nat) (ht : t < 10) (a : Fin 2) : (![0, 512 * t] : Fin 2 → Nat) a + S2048x512.size a ≤ S2048x5120.size a := by
  match a with
  | ⟨0, _⟩ => exact Nat.le_refl 2048
  | ⟨1, _⟩ => show 512 * t + 512 ≤ 5120; omega

/-- A block of 512 result columns lies inside the result. -/
theorem inb_o (t : Nat) (ht : t < 10) (a : Fin 2) : (![0, 512 * t] : Fin 2 → Nat) a + S1024x512.size a ≤ S1024x5120.size a := by
  match a with
  | ⟨0, _⟩ => exact Nat.le_refl 1024
  | ⟨1, _⟩ => show 512 * t + 512 ≤ 5120; omega

/-- What the body writes into column block `b` of its scratch. -/
def gpiece (arg1 : Memref sig .tc .vmem S1024x2048 .fp8e5m2) (harg1 : arg1.IsWhole) (arg2 : Memref sig .tc .vmem S1024x16 .f32) (harg2 : arg2.IsWhole)
    (x0 : Vec F S1024x2048 .fp8e5m2) (x1 : Vec F S1024x16 .f32) (b : Nat) (hb : b < 16) : View.Piece (Elt F) S1024x2048 .bf16 :=
  ⟨Rect.unit ![0, 128 * b] S1024x128.size (inb_g b hb),
    gtile (View.readAt (Elt F) arg2.view (Rect.unit (s := S1024x16) ![0, b] S1024x1.size (inb_s b hb)).toLoadRect (harg2.unread x1))
      (View.readAt (Elt F) arg1.view (Rect.unit (s := S1024x2048) ![0, 128 * b] S1024x128.size (inb_g b hb)).toLoadRect (harg1.unread x0))⟩

/-- The body's writes into its scratch, the last first. -/
def gpieces (arg1 : Memref sig .tc .vmem S1024x2048 .fp8e5m2) (harg1 : arg1.IsWhole) (arg2 : Memref sig .tc .vmem S1024x16 .f32) (harg2 : arg2.IsWhole)
    (x0 : Vec F S1024x2048 .fp8e5m2) (x1 : Vec F S1024x16 .f32) : List (View.Piece (Elt F) S1024x2048 .bf16) :=
  [gpiece arg1 harg1 arg2 harg2 x0 x1 15 (by decide),
    gpiece arg1 harg1 arg2 harg2 x0 x1 14 (by decide),
    gpiece arg1 harg1 arg2 harg2 x0 x1 13 (by decide),
    gpiece arg1 harg1 arg2 harg2 x0 x1 12 (by decide),
    gpiece arg1 harg1 arg2 harg2 x0 x1 11 (by decide),
    gpiece arg1 harg1 arg2 harg2 x0 x1 10 (by decide),
    gpiece arg1 harg1 arg2 harg2 x0 x1 9 (by decide),
    gpiece arg1 harg1 arg2 harg2 x0 x1 8 (by decide),
    gpiece arg1 harg1 arg2 harg2 x0 x1 7 (by decide),
    gpiece arg1 harg1 arg2 harg2 x0 x1 6 (by decide),
    gpiece arg1 harg1 arg2 harg2 x0 x1 5 (by decide),
    gpiece arg1 harg1 arg2 harg2 x0 x1 4 (by decide),
    gpiece arg1 harg1 arg2 harg2 x0 x1 3 (by decide),
    gpiece arg1 harg1 arg2 harg2 x0 x1 2 (by decide),
    gpiece arg1 harg1 arg2 harg2 x0 x1 1 (by decide),
    gpiece arg1 harg1 arg2 harg2 x0 x1 0 (by decide)]

/-- What the body stores into column block `t` of the result, its scratch holding `a`. -/
def opiece (arg3 : Memref sig .tc .vmem S2048x5120 .bf16) (harg3 : arg3.IsWhole) (a : Vec F S1024x2048 .bf16) (x2 : Vec F S2048x5120 .bf16)
    (t : Nat) (ht : t < 10) : View.Piece (Elt F) S1024x5120 .bf16 :=
  ⟨Rect.unit ![0, 512 * t] S1024x512.size (inb_o t ht),
    otile a (View.readAt (Elt F) arg3.view (Rect.unit (s := S2048x5120) ![0, 512 * t] S2048x512.size (inb_w t ht)).toLoadRect (harg3.unread x2))⟩

variable (c : Dev nD) (i : grid1.Coords) (arg1 : Memref sig .tc .vmem S1024x2048 .fp8e5m2) (harg1 : arg1.IsWhole) (arg2 : Memref sig .tc .vmem S1024x16 .f32) (harg2 : arg2.IsWhole) (arg3 : Memref sig .tc .vmem S2048x5120 .bf16) (harg3 : arg3.IsWhole) (arg4 : Memref sig .tc .vmem S1024x5120 .bf16) (harg4 : arg4.IsWhole) (arg5 : Memref sig .tc .vmem S1024x2048 .bf16) (harg5 : arg5.IsWhole)
    (x0 : Vec F S1024x2048 .fp8e5m2) (x1 : Vec F S1024x16 .f32) (x2 : Vec F S2048x5120 .bf16)

/-- The scratch read back is what the sixteen writes leave. -/
theorem scratch_eq : kernelRun1_A.sl.v176 c arg1 harg1 arg2 harg2 arg5 x0 x1 = View.canon (gpieces arg1 harg1 arg2 harg2 x0 x1) := by
  have hz : (![0, 0] : Fin 2 → Nat) = fun _ => 0 := by funext a; fin_cases a <;> rfl
  have h : kernelRun1_A.sl.HS0_16 c arg1 harg1 arg2 harg2 x0 x1 = gpieces arg1 harg1 arg2 harg2 x0 x1 := rfl
  unfold kernelRun1_A.sl.v176
  rw [View.readCov_eq_canon', h]
  exact View.ld_unit_zero hz _ (View.canon (gpieces arg1 harg1 arg2 harg2 x0 x1))

/-- The body's stores into the result, the last first. -/
theorem stores_eq : (kernelRun1_A c i arg1 harg1 arg2 harg2 arg3 harg3 arg4 harg4 arg5 harg5 x0 x1 x2).1
    = [opiece arg3 harg3 (kernelRun1_A.sl.v176 c arg1 harg1 arg2 harg2 arg5 x0 x1) x2 9 (by decide),
      opiece arg3 harg3 (kernelRun1_A.sl.v176 c arg1 harg1 arg2 harg2 arg5 x0 x1) x2 8 (by decide),
      opiece arg3 harg3 (kernelRun1_A.sl.v176 c arg1 harg1 arg2 harg2 arg5 x0 x1) x2 7 (by decide),
      opiece arg3 harg3 (kernelRun1_A.sl.v176 c arg1 harg1 arg2 harg2 arg5 x0 x1) x2 6 (by decide),
      opiece arg3 harg3 (kernelRun1_A.sl.v176 c arg1 harg1 arg2 harg2 arg5 x0 x1) x2 5 (by decide),
      opiece arg3 harg3 (kernelRun1_A.sl.v176 c arg1 harg1 arg2 harg2 arg5 x0 x1) x2 4 (by decide),
      opiece arg3 harg3 (kernelRun1_A.sl.v176 c arg1 harg1 arg2 harg2 arg5 x0 x1) x2 3 (by decide),
      opiece arg3 harg3 (kernelRun1_A.sl.v176 c arg1 harg1 arg2 harg2 arg5 x0 x1) x2 2 (by decide),
      opiece arg3 harg3 (kernelRun1_A.sl.v176 c arg1 harg1 arg2 harg2 arg5 x0 x1) x2 1 (by decide),
      opiece arg3 harg3 (kernelRun1_A.sl.v176 c arg1 harg1 arg2 harg2 arg5 x0 x1) x2 0 (by decide)] := rfl

end Generic

open Cert.Math

/-- The scaled gradient of a block, at every index. -/
def gradBlock {R : Nat} (dy : (⟨2, ![R, 2048]⟩ : Shape).Idx → EReal) (ds : (⟨2, ![R, 16]⟩ : Shape).Idx → EReal)
    (y : (⟨2, ![R, 2048]⟩ : Shape).Idx) : EReal := grad dy ds (y 0) (y 1)

/-- A tile of the scaled gradient at an index. -/
theorem gtile_apply (ds : Vec Ideal S1024x1 .f32) (dy : Vec Ideal S1024x128 .fp8e5m2) (r : Fin 1024) (l : Fin 128) :
    gtile ds dy (ix2 r l) = (dy (ix2 r l) : EReal) * ds (ix2 r (0 : Fin 1)) := by
  pointwise [gtile, k1_pay2]

/-- A tile of the product at an index. -/
theorem otile_apply (a : Vec Ideal S1024x2048 .bf16) (w : Vec Ideal S2048x512 .bf16) (r : Fin 1024) (l : Fin 512) :
    otile a w (ix2 r l) = ∑ k : Fin 2048, (a (ix2 r k) : EReal) * w (ix2 k l) := by
  pointwise [otile, k1_pay1]

section Block

variable (c : Dev nD) (i : grid1.Coords) (arg1 : Memref sig .tc .vmem S1024x2048 .fp8e5m2) (harg1 : arg1.IsWhole) (arg2 : Memref sig .tc .vmem S1024x16 .f32) (harg2 : arg2.IsWhole) (arg3 : Memref sig .tc .vmem S2048x5120 .bf16) (harg3 : arg3.IsWhole) (arg4 : Memref sig .tc .vmem S1024x5120 .bf16) (harg4 : arg4.IsWhole) (arg5 : Memref sig .tc .vmem S1024x2048 .bf16) (harg5 : arg5.IsWhole)
    (x0 : Vec Ideal S1024x2048 .fp8e5m2) (x1 : Vec Ideal S1024x16 .f32) (x2 : Vec Ideal S2048x5120 .bf16)

/-- Each write into the scratch agrees with the scaled gradient at the place it is written to. -/
theorem gpiece_eq (b : Nat) (hb : b < 16) (x : S1024x128.Idx) :
    (gpiece arg1 harg1 arg2 harg2 x0 x1 b hb).2 x
      = gradBlock (R := 1024) x0 x1 ((gpiece arg1 harg1 arg2 harg2 x0 x1 b hb).1.emb x) := by
  obtain ⟨r, l, rfl⟩ : ∃ (r : Fin 1024) (l : Fin 128), x = ix2 r l := ⟨x 0, x 1, (ValueIdx.eq_ix2 x).trans (ix2_eq_valueIdx _ _).symm⟩
  refine (gtile_apply _ _ r l).trans ?_
  rw [harg1.readAt_unread, harg2.readAt_unread]
  have e0 : (gpiece arg1 harg1 arg2 harg2 x0 x1 b hb).1.emb (ix2 r l) 0 = r := Fin.ext (by show 0 + 1 * r.val = r.val; omega)
  have e1 : (gpiece arg1 harg1 arg2 harg2 x0 x1 b hb).1.emb (ix2 r l) 1 = (⟨128 * b + l.val, by omega⟩ : Fin 2048) :=
    Fin.ext (by show 128 * b + 1 * l.val = 128 * b + l.val; omega)
  unfold gradBlock grad
  rw [e0, e1]
  congr 1
  · congr 1
    funext a
    match a with
    | ⟨0, _⟩ => exact Fin.ext (by show 0 + 1 * r.val = r.val; omega)
    | ⟨1, _⟩ => exact Fin.ext (by show 128 * b + 1 * l.val = 128 * b + l.val; omega)
  · congr 1
    funext a
    match a with
    | ⟨0, _⟩ => exact Fin.ext (by show 0 + 1 * r.val = r.val; omega)
    | ⟨1, _⟩ => exact Fin.ext (by show b + 1 * 0 = (128 * b + l.val) / 128; omega)

/-- The scratch the body leaves is the scaled gradient of its block. -/
theorem scratch_apply : View.canon (gpieces arg1 harg1 arg2 harg2 x0 x1) = gradBlock (R := 1024) x0 x1 := by
  funext y
  refine View.canon_apply_of_pieces _ _ ?_ y ?_
  · unfold gpieces
    simp only [List.forall_mem_cons, List.not_mem_nil, false_imp_iff, implies_true, and_true]
    exact ⟨gpiece_eq arg1 harg1 arg2 harg2 x0 x1 15 (by decide),
      gpiece_eq arg1 harg1 arg2 harg2 x0 x1 14 (by decide),
      gpiece_eq arg1 harg1 arg2 harg2 x0 x1 13 (by decide),
      gpiece_eq arg1 harg1 arg2 harg2 x0 x1 12 (by decide),
      gpiece_eq arg1 harg1 arg2 harg2 x0 x1 11 (by decide),
      gpiece_eq arg1 harg1 arg2 harg2 x0 x1 10 (by decide),
      gpiece_eq arg1 harg1 arg2 harg2 x0 x1 9 (by decide),
      gpiece_eq arg1 harg1 arg2 harg2 x0 x1 8 (by decide),
      gpiece_eq arg1 harg1 arg2 harg2 x0 x1 7 (by decide),
      gpiece_eq arg1 harg1 arg2 harg2 x0 x1 6 (by decide),
      gpiece_eq arg1 harg1 arg2 harg2 x0 x1 5 (by decide),
      gpiece_eq arg1 harg1 arg2 harg2 x0 x1 4 (by decide),
      gpiece_eq arg1 harg1 arg2 harg2 x0 x1 3 (by decide),
      gpiece_eq arg1 harg1 arg2 harg2 x0 x1 2 (by decide),
      gpiece_eq arg1 harg1 arg2 harg2 x0 x1 1 (by decide),
      gpiece_eq arg1 harg1 arg2 harg2 x0 x1 0 (by decide)⟩
  · exact View.cover_of_tiledL (gpieces arg1 harg1 arg2 harg2 x0 x1) S1024x128.size (by sl_kernel_rfl) y

/-- The block of results, at every index. -/
def resultBlock {R : Nat} (dy : (⟨2, ![R, 2048]⟩ : Shape).Idx → EReal) (ds : (⟨2, ![R, 16]⟩ : Shape).Idx → EReal)
    (w : (⟨2, ![2048, 5120]⟩ : Shape).Idx → EReal) (y : (⟨2, ![R, 5120]⟩ : Shape).Idx) : EReal :=
  result dy ds (fun k j => w (ValueIdx.ix2 k j)) (y 0) (y 1)

/-- Each store agrees with the result at the place it is stored to. -/
theorem opiece_eq (t : Nat) (ht : t < 10) (x : S1024x512.Idx) :
    (opiece arg3 harg3 (gradBlock (R := 1024) x0 x1) x2 t ht).2 x
      = resultBlock (R := 1024) x0 x1 x2 ((opiece (F := Ideal) arg3 harg3 (gradBlock (R := 1024) x0 x1) x2 t ht).1.emb x) := by
  obtain ⟨r, l, rfl⟩ : ∃ (r : Fin 1024) (l : Fin 512), x = ix2 r l := ⟨x 0, x 1, (ValueIdx.eq_ix2 x).trans (ix2_eq_valueIdx _ _).symm⟩
  refine (otile_apply _ _ r l).trans ?_
  have e0 : (opiece (F := Ideal) arg3 harg3 (gradBlock (R := 1024) x0 x1) x2 t ht).1.emb (ix2 r l) 0 = r := Fin.ext (by show 0 + 1 * r.val = r.val; omega)
  have e1 : (opiece (F := Ideal) arg3 harg3 (gradBlock (R := 1024) x0 x1) x2 t ht).1.emb (ix2 r l) 1 = (⟨512 * t + l.val, by omega⟩ : Fin 5120) :=
    Fin.ext (by show 512 * t + 1 * l.val = 512 * t + l.val; omega)
  unfold resultBlock result
  rw [e0, e1]
  refine Finset.sum_congr rfl fun k _ => ?_
  rw [harg3.readAt_unread]
  congr 1
  congr 1
  funext a
  match a with
  | ⟨0, _⟩ => exact Fin.ext (by show 0 + 1 * k.val = k.val; omega)
  | ⟨1, _⟩ => exact Fin.ext (by show 512 * t + 1 * l.val = 512 * t + l.val; omega)

/-- The block the body leaves is the block of results. -/
theorem out_apply : out1_A_3 c i arg1 harg1 arg2 harg2 arg3 harg3 arg4 harg4 arg5 harg5 x0 x1 x2 = resultBlock (R := 1024) x0 x1 x2 := by
  unfold out1_A_3
  rw [View.read_writes_eq_canon _ _ _ (cover1_A_3 c i arg1 harg1 arg2 harg2 arg3 harg3 arg4 harg4 arg5 harg5 x0 x1 x2)]
  funext y
  have hcov := cover1_A_3 c i arg1 harg1 arg2 harg2 arg3 harg3 arg4 harg4 arg5 harg5 x0 x1 x2 y
  rw [stores_eq, scratch_eq, scratch_apply] at hcov ⊢
  refine View.canon_apply_of_pieces _ _ ?_ y hcov
  simp only [List.forall_mem_cons, List.not_mem_nil, false_imp_iff, implies_true, and_true]
  exact ⟨opiece_eq arg3 harg3 x0 x1 x2 9 (by decide),
    opiece_eq arg3 harg3 x0 x1 x2 8 (by decide),
    opiece_eq arg3 harg3 x0 x1 x2 7 (by decide),
    opiece_eq arg3 harg3 x0 x1 x2 6 (by decide),
    opiece_eq arg3 harg3 x0 x1 x2 5 (by decide),
    opiece_eq arg3 harg3 x0 x1 x2 4 (by decide),
    opiece_eq arg3 harg3 x0 x1 x2 3 (by decide),
    opiece_eq arg3 harg3 x0 x1 x2 2 (by decide),
    opiece_eq arg3 harg3 x0 x1 x2 1 (by decide),
    opiece_eq arg3 harg3 x0 x1 x2 0 (by decide)⟩

end Block

end Cert.KernelIdeal.Dgrad

end
-- ==== Proof.Arrays.lean ====
/- What the two calls leave in their output arrays, over the reals. -/
module

public import proofs.«01_k».proof.Proof.Expand
public import proofs.«01_k».proof.Proof.Dgrad

@[expose] public section

set_option maxRecDepth 16384

noncomputable section

namespace Cert.KernelIdeal.Arrays

open Idealize.ShloMosaic Idealize.ShloMosaic.TcCoe Cert.KernelIdeal Cert.KernelIdeal.Gen Cert.Math
open Idealize.SL.Sem
open Idealize.ShloMosaic.Pipeline (Dat)

variable (V : (c : Dev nD) → (b : Ref sig .tc) → Buf (Elt Ideal) ((c : Thread nD τ).loc b)) (c : Dev nD)

/-- The kept values as the expansion call finds them. -/
abbrev vals : (⟨2, ![2048, 2560]⟩ : Shape).Idx → BitVec 8 := V c (Pipeline.arrRef spec0 0)
/-- The packed positions as the expansion call finds them. -/
abbrev mt : (⟨2, ![2048, 160]⟩ : Shape).Idx → BitVec 32 := V c (Pipeline.arrRef spec0 1)
/-- The weight scales as the expansion call finds them. -/
abbrev ws : (⟨2, ![2048, 1]⟩ : Shape).Idx → EReal := V c (Pipeline.arrRef spec0 2)

/-- The block indices of the expansion call's windows: block row `t`, the only block column. -/
theorem idx0 : ∀ t : Fin cfg0.N, win0_0.index t = ![t.val, 0] ∧ win0_1.index t = ![t.val, 0] ∧ win0_2.index t = ![t.val, 0]
    ∧ win0_3.index t = ![t.val, 0] := by decide +kernel

/-- The block indices of the product call's windows: block row `t` of the gradient, its scales and the result, and the
    whole weight. -/
theorem idx1 : ∀ t : Fin cfg1.N, win1_0.index t = ![t.val, 0] ∧ win1_1.index t = ![t.val, 0] ∧ win1_2.index t = ![0, 0]
    ∧ win1_3.index t = ![t.val, 0] := by decide +kernel

/-- A weight depends on its own row alone. -/
theorem weight_congr {R R' : Nat} {v : (⟨2, ![R, 2560]⟩ : Shape).Idx → BitVec 8} {v' : (⟨2, ![R', 2560]⟩ : Shape).Idx → BitVec 8}
    {p : (⟨2, ![R, 160]⟩ : Shape).Idx → BitVec 32} {p' : (⟨2, ![R', 160]⟩ : Shape).Idx → BitVec 32}
    {s : (⟨2, ![R, 1]⟩ : Shape).Idx → EReal} {s' : (⟨2, ![R', 1]⟩ : Shape).Idx → EReal} (k : Fin R) (k' : Fin R')
    (hv : ∀ j, v (ValueIdx.ix2 k j) = v' (ValueIdx.ix2 k' j)) (hp : ∀ j, p (ValueIdx.ix2 k j) = p' (ValueIdx.ix2 k' j))
    (hs : s (ValueIdx.ix2 k 0) = s' (ValueIdx.ix2 k' 0)) (j : Fin 5120) : weight v p s k j = weight v' p' s' k' j := by
  simp only [weight, hv, hp, hs]

/-- A result depends on its own row of the gradient and the scales. -/
theorem result_congr {R R' : Nat} {d : (⟨2, ![R, 2048]⟩ : Shape).Idx → EReal} {d' : (⟨2, ![R', 2048]⟩ : Shape).Idx → EReal}
    {s : (⟨2, ![R, 16]⟩ : Shape).Idx → EReal} {s' : (⟨2, ![R', 16]⟩ : Shape).Idx → EReal} (w w' : Fin 2048 → Fin 5120 → EReal)
    (r : Fin R) (r' : Fin R')
    (hd : ∀ j, d (ValueIdx.ix2 r j) = d' (ValueIdx.ix2 r' j)) (hs : ∀ j, s (ValueIdx.ix2 r j) = s' (ValueIdx.ix2 r' j))
    (hw : ∀ k j, w k j = w' k j) (j : Fin 5120) : result d s w r j = result d' s' w' r' j := by
  simp only [result, grad, hd, hs, hw]

/-- Row `k` of the expansion's block `t` is a row of the weight matrix. -/
theorem lt0 (t : Fin cfg0.N) (k : Fin 256) : 256 * t.val + k.val < 2048 := by
  have : t.val < 8 := t.isLt
  omega

/-- Row `k` of the product's block `t` is a row of the result. -/
theorem lt1 (t : Fin cfg1.N) (k : Fin 1024) : 1024 * t.val + k.val < 12288 := by
  have : t.val < 12 := t.isLt
  omega

/-- The expansion call's block of kept values is the array's rows from `256 t` on; -/
theorem blk0_0 (t : Fin cfg0.N) (k : Fin 256) (j : Fin 2560) :
    iblk0 V c 0 t (ValueIdx.ix2 k j) = vals V c (ValueIdx.ix2 (⟨256 * t.val + k.val, lt0 t k⟩ : Fin 2048) j) := by
  refine congrArg (V c (Pipeline.arrRef spec0 0)) (funext fun a => Fin.ext ?_)
  match a with
  | ⟨0, _⟩ => blk_simp [(idx0 t).1] <;> (show t.val * 256 + k.val = 256 * t.val + k.val; omega)
  | ⟨1, _⟩ => blk_simp [(idx0 t).1] <;> (show 0 * 2560 + j.val = j.val; omega)

/-- its block of positions, -/
theorem blk0_1 (t : Fin cfg0.N) (k : Fin 256) (j : Fin 160) :
    iblk0 V c 1 t (ValueIdx.ix2 k j) = mt V c (ValueIdx.ix2 (⟨256 * t.val + k.val, lt0 t k⟩ : Fin 2048) j) := by
  refine congrArg (V c (Pipeline.arrRef spec0 1)) (funext fun a => Fin.ext ?_)
  match a with
  | ⟨0, _⟩ => blk_simp [(idx0 t).2.1] <;> (show t.val * 256 + k.val = 256 * t.val + k.val; omega)
  | ⟨1, _⟩ => blk_simp [(idx0 t).2.1] <;> (show 0 * 160 + j.val = j.val; omega)

/-- and its block of scales. -/
theorem blk0_2 (t : Fin cfg0.N) (k : Fin 256) (j : Fin 1) :
    iblk0 V c 2 t (ValueIdx.ix2 k j) = ws V c (ValueIdx.ix2 (⟨256 * t.val + k.val, lt0 t k⟩ : Fin 2048) j) := by
  refine congrArg (V c (Pipeline.arrRef spec0 2)) (funext fun a => Fin.ext ?_)
  match a with
  | ⟨0, _⟩ => blk_simp [(idx0 t).2.2.1] <;> (show t.val * 256 + k.val = 256 * t.val + k.val; omega)
  | ⟨1, _⟩ => blk_simp [(idx0 t).2.2.1] <;> (show 0 * 1 + j.val = j.val; omega)

/-- The expansion call leaves the dense weights. -/
theorem dense_eq (hm : Differ (mt V c)) :
    (dat0 V c).arrAt 3 cfg0.N = Expand.weightBlock (vals V c) (mt V c) (ws V c) := by
  refine (dat0 V c).arrAt_eq_of_covers 3 _ (by decide +kernel) fun t hf y => ?_
  blk_simp
  rw [after0_3]
  rw [Expand.out_apply]
  · obtain ⟨k, j, rfl⟩ : ∃ (k : Fin 256) (j : Fin 5120), y = ValueIdx.ix2 k j := ⟨y 0, y 1, ValueIdx.eq_ix2 y⟩
    have e : (win0_3.blk t).view.emb (ValueIdx.ix2 k j) = ValueIdx.ix2 (⟨256 * t.val + k.val, lt0 t k⟩ : Fin 2048) j := by
      funext a
      refine Fin.ext ?_
      match a with
      | ⟨0, _⟩ => blk_simp [(idx0 t).2.2.2] <;> (show t.val * 256 + k.val = 256 * t.val + k.val; omega)
      | ⟨1, _⟩ => blk_simp [(idx0 t).2.2.2] <;> (show 0 * 5120 + j.val = j.val; omega)
    rw [e]
    exact weight_congr k _ (fun j => blk0_0 V c t k j) (fun j => blk0_1 V c t k j) (blk0_2 V c t k 0) j
  · intro k w g hg p
    rw [blk0_1 V c t k w]
    exact hm _ w g hg p

/-- The product call's block of gradient codes is the array's rows from `1024 t` on; -/
theorem blk1_0 (t : Fin cfg1.N) (k : Fin 1024) (j : Fin 2048) :
    iblk1 V c 0 t (ValueIdx.ix2 k j) = V c (Pipeline.arrRef spec1 0) (ValueIdx.ix2 (⟨1024 * t.val + k.val, lt1 t k⟩ : Fin 12288) j) := by
  refine congrArg (V c (Pipeline.arrRef spec1 0)) (funext fun a => Fin.ext ?_)
  match a with
  | ⟨0, _⟩ => blk_simp [(idx1 t).1] <;> (show t.val * 1024 + k.val = 1024 * t.val + k.val; omega)
  | ⟨1, _⟩ => blk_simp [(idx1 t).1] <;> (show 0 * 2048 + j.val = j.val; omega)

/-- its block of gradient scales likewise, -/
theorem blk1_1 (t : Fin cfg1.N) (k : Fin 1024) (j : Fin 16) :
    iblk1 V c 1 t (ValueIdx.ix2 k j) = V c (Pipeline.arrRef spec1 1) (ValueIdx.ix2 (⟨1024 * t.val + k.val, lt1 t k⟩ : Fin 12288) j) := by
  refine congrArg (V c (Pipeline.arrRef spec1 1)) (funext fun a => Fin.ext ?_)
  match a with
  | ⟨0, _⟩ => blk_simp [(idx1 t).2.1] <;> (show t.val * 1024 + k.val = 1024 * t.val + k.val; omega)
  | ⟨1, _⟩ => blk_simp [(idx1 t).2.1] <;> (show 0 * 16 + j.val = j.val; omega)

/-- and its block of the weight is the whole weight. -/
theorem blk1_2 (t : Fin cfg1.N) (k : Fin 2048) (j : Fin 5120) :
    iblk1 V c 2 t (ValueIdx.ix2 k j) = V c (Pipeline.arrRef spec1 2) (ValueIdx.ix2 k j) := by
  refine congrArg (V c (Pipeline.arrRef spec1 2)) (funext fun a => Fin.ext ?_)
  match a with
  | ⟨0, _⟩ => blk_simp [(idx1 t).2.2.1] <;> (show 0 * 2048 + k.val = k.val; omega)
  | ⟨1, _⟩ => blk_simp [(idx1 t).2.2.1] <;> (show 0 * 5120 + j.val = j.val; omega)

/-- The product call leaves the results. -/
theorem product_eq :
    (dat1 V c).arrAt 3 cfg1.N = Dgrad.resultBlock (R := 12288) (V c (Pipeline.arrRef spec1 0)) (V c (Pipeline.arrRef spec1 1)) (V c (Pipeline.arrRef spec1 2)) := by
  refine (dat1 V c).arrAt_eq_of_covers 3 _ (by decide +kernel) fun t hf y => ?_
  blk_simp
  rw [after1_3]
  unfold outsAt1
  rw [Dgrad.out_apply]
  obtain ⟨k, j, rfl⟩ : ∃ (k : Fin 1024) (j : Fin 5120), y = ValueIdx.ix2 k j := ⟨y 0, y 1, ValueIdx.eq_ix2 y⟩
  have e : (win1_3.blk t).view.emb (ValueIdx.ix2 k j) = ValueIdx.ix2 (⟨1024 * t.val + k.val, lt1 t k⟩ : Fin 12288) j := by
    funext a
    refine Fin.ext ?_
    match a with
    | ⟨0, _⟩ => blk_simp [(idx1 t).2.2.2] <;> (show t.val * 1024 + k.val = 1024 * t.val + k.val; omega)
    | ⟨1, _⟩ => blk_simp [(idx1 t).2.2.2] <;> (show 0 * 5120 + j.val = j.val; omega)
  rw [e]
  exact result_congr _ _ k _ (fun j => blk1_0 V c t k j) (fun j => blk1_1 V c t k j) (fun k' j => blk1_2 V c t k' j) j

end Cert.KernelIdeal.Arrays

end
-- ==== Proof.Run.lean ====
/- The kernel's run with its result: what the second call's output array holds, beside the unchanged arguments. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution ends, without a fault, with the second call's output
    array in the result and every argument as launched. -/
theorem run : θ_run defs (onTc (τ := τ) (main (F := F))) ⟨m, fun _ => 0, ρ⟩ (fun r => (∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v4 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Run

end
-- ==== Proof.Kernel.lean ====
/- The kernel's result, from its arguments. -/
module

public import proofs.«01_k».proof.Proof.Run
public import proofs.«01_k».proof.Proof.Arrays
public import Idealize.ShloMosaic.Lib.Claim

@[expose] public section

set_option maxRecDepth 16384

noncomputable section

namespace Cert.KernelIdeal.Value

open Idealize.ShloMosaic Idealize.ShloMosaic.TcCoe Cert.KernelIdeal Cert.KernelIdeal.Gen Cert.Math
open Idealize.SL.Sem

variable (m : (ℓ : Loc nD τ sig) → Buf (Elt Ideal) ℓ) (ρ : Dev nD → PrngReg) (c : Dev nD)

/-- The arrays the calls find that the host reshapes, from the arguments. -/
theorem found : V1 m ρ c main_v0 = shapeCast S12288x2048 (m ((c : Thread nD τ).loc main_arg0)) shapeCasts_S12x1024x2048_S12288x2048
    ∧ V1 m ρ c main_v1 = shapeCast S12288x16 (m ((c : Thread nD τ).loc main_arg1)) shapeCasts_S12x1024x16_S12288x16
    ∧ V1 m ρ c main_v2 = shapeCast S2048x1 (m ((c : Thread nD τ).loc main_arg4)) shapeCasts_S2048_S2048x1 := by
  refine ⟨?_, ?_, ?_⟩ <;> (unfold V1 W1; entry_read; rfl)

/-- The result array, from the arguments. -/
theorem array_eq (hm : Differ (R := 2048) (m ((c : Thread nD τ).loc main_arg3))) :
    (dat1 (V2 m ρ) c).arrAt 3 cfg1.N = fun i : S12288x5120.Idx => result (R := 12288)
      (shapeCast S12288x2048 (m ((c : Thread nD τ).loc main_arg0)) shapeCasts_S12x1024x2048_S12288x2048)
      (shapeCast S12288x16 (m ((c : Thread nD τ).loc main_arg1)) shapeCasts_S12x1024x16_S12288x16)
      (weight (R := 2048) (m ((c : Thread nD τ).loc main_arg2)) (m ((c : Thread nD τ).loc main_arg3))
        (shapeCast S2048x1 (m ((c : Thread nD τ).loc main_arg4)) shapeCasts_S2048_S2048x1)) (i 0) (i 1) := by
  have a2 : V1 m ρ c main_arg2 = m ((c : Thread nD τ).loc main_arg2) := W1_args m ρ c main_arg2 (by decide)
  have a3 : V1 m ρ c main_arg3 = m ((c : Thread nD τ).loc main_arg3) := W1_args m ρ c main_arg3 (by decide)
  obtain ⟨f0, f1, f2⟩ := found m ρ c
  have g0 : V2 m ρ c main_v0 = V1 m ρ c main_v0 := W2_of_ne m ρ c main_v0 (by decide)
  have g1 : V2 m ρ c main_v1 = V1 m ρ c main_v1 := W2_of_ne m ρ c main_v1 (by decide)
  have g3 : V2 m ρ c main_v3 = Expand.weightBlock (R := 2048) (V1 m ρ c main_arg2) (V1 m ρ c main_arg3) (V1 m ρ c main_v2) :=
    (W2_arr m ρ c 3).trans (Arrays.dense_eq (V1 m ρ) c (by
      have e : Arrays.mt (V1 m ρ) c = m ((c : Thread nD τ).loc main_arg3) := a3
      rw [e]; exact hm))
  have hp := Arrays.product_eq (V2 m ρ) c
  rw [hp]
  show Dgrad.resultBlock (R := 12288) (V2 m ρ c main_v0) (V2 m ρ c main_v1) (V2 m ρ c main_v3) = _
  rw [g0, g1, g3, f0, f1, f2, a2, a3]
  rfl

end Cert.KernelIdeal.Value

end
-- ==== Proof.Reference.lean ====
/- The reference over the reals: its one block is the result. -/
module

public import proofs.«01_k».proof.Proof.Gen.ReferenceIdeal.Value
public import proofs.«01_k».proof.Proof.Fields
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.ReferenceIdeal.Ref

open Idealize.ShloMosaic Idealize.ShloMosaic.TcCoe Cert.ReferenceIdeal Cert.ReferenceIdeal.Gen Cert.Math
open Idealize.SL.Sem
open Idealize.ShloMosaic.Pipeline (Dat)

/-- The dense weight the body computes. -/
theorem weight_apply (mt : Vec Ideal S2048x160 .i32) (vals : Vec Ideal S2048x2560 .i8) (ws : Vec Ideal S2048x1 .f32) (k : Fin 2048) (j : Fin 5120) :
    k0_pay2 mt vals ws (ix2 k j) = weight (R := 2048) vals mt ws k j := by
  pointwise [k0_pay2]
  have hj := j.isLt
  rw [select_hit _ _ (4 * (j.val / 4 % 8)) _ (field_eq .vector _ _ (4 * (j.val / 4 % 8))
      (by unfold IntOp.muli; rw [← BitVec.ofNat_mul]; congr 1; omega) (by omega)),
    select_hit _ _ (4 * (j.val / 4 % 8) + 2) _ (field_eq .vector _ _ (4 * (j.val / 4 % 8) + 2)
      (by unfold IntOp.muli; rw [← BitVec.ofNat_mul]; congr 1; omega) (by omega))]
  have ew : ∀ h, (⟨j.val / 4 / 8, h⟩ : Fin 160) = ⟨j.val / 32, by omega⟩ := fun _ => Fin.ext (by show j.val / 4 / 8 = j.val / 32; omega)
  have e0 : ∀ h, (⟨j.val / 4 * 2, h⟩ : Fin 2560) = ⟨2 * (j.val / 4), by omega⟩ := fun _ => Fin.ext (by show j.val / 4 * 2 = 2 * (j.val / 4); omega)
  have e1 : ∀ h, (⟨j.val / 4 * 2 + 1, h⟩ : Fin 2560) = ⟨2 * (j.val / 4) + 1, by omega⟩ :=
    fun _ => Fin.ext (by show j.val / 4 * 2 + 1 = 2 * (j.val / 4) + 1; omega)
  rw [ew, e0, e1]
  simp only [ix2_eq_valueIdx]
  rfl

/-- The result the body computes. -/
theorem result_apply (w : FVec Ideal S2048x5120 .bf16) (dy : Vec Ideal S12288x2048 .fp8e5m2) (ds : Vec Ideal S12288x16 .f32) (r : Fin 12288) (j : Fin 5120) :
    k0_pay1 w (k0_pay3 dy) (k0_pay4 ds) (ix2 r j) = result (R := 12288) dy ds (fun k j => w (ValueIdx.ix2 k j)) r j := by
  pointwise [k0_pay1, k0_pay3, k0_pay4]
  simp only [ix2_eq_valueIdx]
  rfl

/-- The block the body leaves. -/
theorem out_apply (x0 : Vec Ideal S12288x2048 .fp8e5m2) (x1 : Vec Ideal S12288x16 .f32) (x2 : Vec Ideal S2048x2560 .i8) (x3 : Vec Ideal S2048x160 .i32)
    (x4 : Vec Ideal S2048x1 .f32) (r : Fin 12288) (j : Fin 5120) :
    out0_5 x0 x1 x2 x3 x4 (ix2 r j) = result (R := 12288) x0 x1 (weight (R := 2048) x2 x3 x4) r j := by
  have hz : (![0, 0] : Fin 2 → Nat) = fun _ => 0 := by funext a; fin_cases a <;> rfl
  unfold out0_5
  rw [View.canon_unit_zero hz, View.ld_unit_zero hz, View.ld_unit_zero hz, View.ld_unit_zero hz, View.ld_unit_zero hz, View.ld_unit_zero hz]
  rw [result_apply]
  congr 1
  funext k j
  rw [← ix2_eq_valueIdx]
  exact weight_apply x3 x2 x4 k j

variable (m : (ℓ : Loc nD τ sig) → Buf (Elt Ideal) ℓ) (c : Dev nD)

/-- Each window's block index is the origin. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := by decide +kernel

/-- The result array the call leaves, from the arrays it finds. -/
theorem array_eq :
    (dats m 0 c).arrAt 5 cfg0.N = fun i : S12288x5120.Idx => result (R := 12288) (V m c main_v0) (V m c main_v1)
      (weight (R := 2048) (V m c main_arg2) (V m c main_arg3) (V m c main_v2)) (i 0) (i 1) := by
  refine (dats m 0 c).arrAt_eq_of_covers 5 _ (by decide +kernel) fun t hf y => ?_
  blk_simp
  rw [after0_5]
  obtain ⟨r, j, rfl⟩ : ∃ (r : Fin 12288) (j : Fin 5120), y = ix2 r j := ⟨y 0, y 1, (ValueIdx.eq_ix2 y).trans (ix2_eq_valueIdx _ _).symm⟩
  have b0 : iblk m c 0 t = V m c main_v0 := by
    funext x
    refine congrArg (V m c main_v0) (funext fun a => Fin.ext ?_)
    match a with
    | ⟨0, _⟩ => blk_simp [(idx t).1]
    | ⟨1, _⟩ => blk_simp [(idx t).1]
  have b1 : iblk m c 1 t = V m c main_v1 := by
    funext x
    refine congrArg (V m c main_v1) (funext fun a => Fin.ext ?_)
    match a with
    | ⟨0, _⟩ => blk_simp [(idx t).2.1]
    | ⟨1, _⟩ => blk_simp [(idx t).2.1]
  have b2 : iblk m c 2 t = V m c main_arg2 := by
    funext x
    refine congrArg (V m c main_arg2) (funext fun a => Fin.ext ?_)
    match a with
    | ⟨0, _⟩ => blk_simp [(idx t).2.2.1]
    | ⟨1, _⟩ => blk_simp [(idx t).2.2.1]
  have b3 : iblk m c 3 t = V m c main_arg3 := by
    funext x
    refine congrArg (V m c main_arg3) (funext fun a => Fin.ext ?_)
    match a with
    | ⟨0, _⟩ => blk_simp [(idx t).2.2.2.1]
    | ⟨1, _⟩ => blk_simp [(idx t).2.2.2.1]
  have b4 : iblk m c 4 t = V m c main_v2 := by
    funext x
    refine congrArg (V m c main_v2) (funext fun a => Fin.ext ?_)
    match a with
    | ⟨0, _⟩ => blk_simp [(idx t).2.2.2.2.1]
    | ⟨1, _⟩ => blk_simp [(idx t).2.2.2.2.1]
  have e0 : (win0_5.blk t).view.emb (ix2 r j) 0 = r := Fin.ext (by blk_simp [(idx t).2.2.2.2.2] <;> rfl)
  have e1 : (win0_5.blk t).view.emb (ix2 r j) 1 = j := Fin.ext (by blk_simp [(idx t).2.2.2.2.2] <;> rfl)
  rw [b0, b1, b2, b3, b4, e0, e1]
  exact out_apply _ _ _ _ _ r j

/-- The arrays the call finds, from the arguments. -/
theorem found : V m c main_v0 = shapeCast S12288x2048 (m ((c : Thread nD τ).loc main_arg0)) shapeCasts_S12x1024x2048_S12288x2048
    ∧ V m c main_v1 = shapeCast S12288x16 (m ((c : Thread nD τ).loc main_arg1)) shapeCasts_S12x1024x16_S12288x16
    ∧ V m c main_v2 = shapeCast S2048x1 (m ((c : Thread nD τ).loc main_arg4)) shapeCasts_S2048_S2048x1 := by
  refine ⟨?_, ?_, ?_⟩ <;> (entry_read; rfl)

end Cert.ReferenceIdeal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Spec
public import proofs.«01_k».proof.Proof.Fields
public import proofs.«01_k».proof.Proof.Tile
public import proofs.«01_k».proof.Proof.Bytes
public import proofs.«01_k».proof.Proof.Expand
public import proofs.«01_k».proof.Proof.Dgrad
public import proofs.«01_k».proof.Proof.Arrays
public import proofs.«01_k».proof.Proof.Run
public import proofs.«01_k».proof.Proof.Kernel
public import proofs.«01_k».proof.Proof.Reference
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- Over the reals, from equal arguments whose positions differ, the kernel and the reference end with the same result. -/
theorem algebraic : Cert.algebraic_KernelIdeal_ReferenceIdeal_pre_positions_differ := by
  intro m g m' g' hpre hargs
  refine ⟨fun c => (Cert.KernelIdeal.Gen.dat1 (Cert.KernelIdeal.Gen.V2 m g) c).arrAt 3 Cert.KernelIdeal.cfg1.N,
    Cert.KernelIdeal.Run.run m g, ?_⟩
  refine (θ_run _ _ _).mono (fun r h c => ⟨(h c).1.trans ?_, (h c).2⟩) (Cert.ReferenceIdeal.Value.run_blocks m' g')
  obtain ⟨h0, h1, h2, h3, h4⟩ := hargs c
  obtain ⟨f0, f1, f2⟩ := Cert.ReferenceIdeal.Ref.found m' c
  have hm := Cert.Math.differ_of_pre _ _ _ _ _ (hpre c)
  refine Eq.trans ?_ (Cert.KernelIdeal.Value.array_eq m g c hm).symm
  rw [Cert.ReferenceIdeal.Ref.array_eq, f0, f1, f2,
    Cert.ReferenceIdeal.Gen.V_main_arg2, Cert.ReferenceIdeal.Gen.V_main_arg3, h0, h1, h2, h3, h4]

/-- Everything the certificate claims. -/
theorem claim : Cert.Claim :=
  ⟨Cert.Kernel.Gen.facts, Cert.KernelIdeal.Gen.facts, Cert.ReferenceIdeal.Gen.facts, Cert.Math.pre_facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
